-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x4096 : Shape := ⟨3, ![8, 2048, 4096]⟩
abbrev S8x2048x512 : Shape := ⟨3, ![8, 2048, 512]⟩
abbrev S32 : Shape := ⟨1, ![32]⟩
abbrev S4 : Shape := ⟨1, ![4]⟩
abbrev S1x2048x1024 : Shape := ⟨3, ![1, 2048, 1024]⟩
abbrev S1x2048x128 : Shape := ⟨3, ![1, 2048, 128]⟩
abbrev S144x2048 : Shape := ⟨2, ![144, 2048]⟩
abbrev S2x1152x256 : Shape := ⟨3, ![2, 1152, 256]⟩
abbrev S2048x128 : Shape := ⟨2, ![2048, 128]⟩
abbrev S128x2048 : Shape := ⟨2, ![128, 2048]⟩
abbrev S16x2048 : Shape := ⟨2, ![16, 2048]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S1 : Shape := ⟨1, ![1]⟩
abbrev S1x128 : Shape := ⟨2, ![1, 128]⟩
abbrev S1x256 : Shape := ⟨2, ![1, 256]⟩
abbrev S1x128x256 : Shape := ⟨3, ![1, 128, 256]⟩
abbrev S16x8x256 : Shape := ⟨3, ![16, 8, 256]⟩
abbrev S8x256 : Shape := ⟨2, ![8, 256]⟩
abbrev S256 : Shape := ⟨1, ![256]⟩
abbrev S144x128 : Shape := ⟨2, ![144, 128]⟩
abbrev S144x256 : Shape := ⟨2, ![144, 256]⟩
abbrev S1x256x256 : Shape := ⟨3, ![1, 256, 256]⟩
abbrev S256x256 : Shape := ⟨2, ![256, 256]⟩

abbrev nBuf : Space → Nat
  | .hbm => 7
  | .vmem => 10
  | .smem => 3
  | _ => 0

abbrev bufTy : (tb : Table) → Fin (tcTables nBuf tb) → BufTy
  | .hbm, ⟨0, _⟩ => ⟨S8x2048x4096, .fp8e4m3⟩
  | .hbm, ⟨1, _⟩ => ⟨S8x2048x512, .fp8e4m3⟩
  | .hbm, ⟨2, _⟩ => ⟨S8x2048x512, .fp8e4m3⟩
  | .hbm, ⟨3, _⟩ => ⟨S32, .f32⟩
  | .hbm, ⟨4, _⟩ => ⟨S4, .f32⟩
  | .hbm, ⟨5, _⟩ => ⟨S4, .f32⟩
  | .hbm, ⟨6, _⟩ => ⟨S8x2048x4096, .bf16⟩
  | .local _ .vmem, ⟨0, _⟩ => ⟨S1x2048x1024, .fp8e4m3⟩
  | .local _ .vmem, ⟨1, _⟩ => ⟨S1x2048x1024, .fp8e4m3⟩
  | .local _ .vmem, ⟨2, _⟩ => ⟨S1x2048x128, .fp8e4m3⟩
  | .local _ .vmem, ⟨3, _⟩ => ⟨S1x2048x128, .fp8e4m3⟩
  | .local _ .vmem, ⟨4, _⟩ => ⟨S1x2048x128, .fp8e4m3⟩
  | .local _ .vmem, ⟨5, _⟩ => ⟨S1x2048x128, .fp8e4m3⟩
  | .local _ .vmem, ⟨6, _⟩ => ⟨S1x2048x1024, .bf16⟩
  | .local _ .vmem, ⟨7, _⟩ => ⟨S1x2048x1024, .bf16⟩
  | .local _ .vmem, ⟨8, _⟩ => ⟨S144x2048, .bf16⟩
  | .local _ .vmem, ⟨9, _⟩ => ⟨S2x1152x256, .f32⟩
  | .local _ .smem, ⟨0, _⟩ => ⟨S32, .f32⟩
  | .local _ .smem, ⟨1, _⟩ => ⟨S4, .f32⟩
  | .local _ .smem, ⟨2, _⟩ => ⟨S4, .f32⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def k0_off1 (i : grid0.Coords) (c0_i32_14 : BitVec 32) (c0_i32_15 : BitVec 32) : Fin 1 → Nat :=
  let arg1 : BitVec 32 := BitVec.ofNat 32 (i 1).val
  let c8_i32 : BitVec 32 := 8#32
  let v35 : BitVec 32 := Scalar.muli arg1 c8_i32
  let v36 : BitVec 32 := Scalar.addi v35 c0_i32_14
  let v37 : BitVec 32 := Scalar.addi v36 c0_i32_15
  let v38 : Index := Scalar.indexCast v37
  ![v38.toNat]
def k0_off2 (i : grid0.Coords) : Fin 1 → Nat :=
  let arg1 : BitVec 32 := BitVec.ofNat 32 (i 1).val
  let v40 : Index := Scalar.indexCast arg1
  ![v40.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x4096 : Shape := ⟨3, ![8, 2048, 4096]⟩
abbrev S8x2048x512 : Shape := ⟨3, ![8, 2048, 512]⟩
abbrev S32 : Shape := ⟨1, ![32]⟩
abbrev S4 : Shape := ⟨1, ![4]⟩
abbrev S8x2048x4x8x128 : Shape := ⟨5, ![8, 2048, 4, 8, 128]⟩
abbrev S8x2048x4x128 : Shape := ⟨4, ![8, 2048, 4, 128]⟩
abbrev S4x8 : Shape := ⟨2, ![4, 8]⟩
abbrev S4x1 : Shape := ⟨2, ![4, 1]⟩
abbrev S_ : Shape := ⟨0, ![]⟩
abbrev S8x4x2048x2048x8 : Shape := ⟨5, ![8, 4, 2048, 2048, 8]⟩
abbrev S8x4x8x2048x2048 : Shape := ⟨5, ![8, 4, 8, 2048, 2048]⟩
abbrev S1x4x8x1x1 : Shape := ⟨5, ![1, 4, 8, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x4x8x2048 : Shape := ⟨4, ![8, 4, 8, 2048]⟩
abbrev S8x4x8x2048x1 : Shape := ⟨5, ![8, 4, 8, 2048, 1]⟩
abbrev S8x4x128x8x2048 : Shape := ⟨5, ![8, 4, 128, 8, 2048]⟩
abbrev S1x1x4x1x1 : Shape := ⟨5, ![1, 1, 4, 1, 1]⟩

abbrev nBuf : Space → Nat
  | .hbm => 67
  | .vmem => 6
  | .smem => 0
  | _ => 0

abbrev bufTy : (tb : Table) → Fin (tcTables nBuf tb) → BufTy
  | .hbm, ⟨0, _⟩ => ⟨S8x2048x4096, .fp8e4m3⟩
  | .hbm, ⟨1, _⟩ => ⟨S8x2048x512, .fp8e4m3⟩
  | .hbm, ⟨2, _⟩ => ⟨S8x2048x512, .fp8e4m3⟩
  | .hbm, ⟨3, _⟩ => ⟨S32, .f32⟩
  | .hbm, ⟨4, _⟩ => ⟨S4, .f32⟩
  | .hbm, ⟨5, _⟩ => ⟨S4, .f32⟩
  | .hbm, ⟨6, _⟩ => ⟨S8x2048x4096, .bf16⟩
  | .hbm, ⟨7, _⟩ => ⟨S8x2048x512, .bf16⟩
  | .hbm, ⟨8, _⟩ => ⟨S8x2048x512, .bf16⟩
  | .hbm, ⟨9, _⟩ => ⟨S8x2048x4x8x128, .bf16⟩
  | .hbm, ⟨10, _⟩ => ⟨S8x2048x4x128, .bf16⟩
  | .hbm, ⟨11, _⟩ => ⟨S8x2048x4x128, .bf16⟩
  | .hbm, ⟨12, _⟩ => ⟨S4x8, .f32⟩
  | .hbm, ⟨13, _⟩ => ⟨S4x1, .f32⟩
  | .hbm, ⟨14, _⟩ => ⟨S4x8, .f32⟩
  | .hbm, ⟨15, _⟩ => ⟨S4x8, .f32⟩
  | .hbm, ⟨16, _⟩ => ⟨S_, .f32⟩
  | .hbm, ⟨17, _⟩ => ⟨S4x8, .f32⟩
  | .hbm, ⟨18, _⟩ => ⟨S4x8, .f32⟩
  | .hbm, ⟨19, _⟩ => ⟨S8x4x2048x2048x8, .f32⟩
  | .hbm, ⟨20, _⟩ => ⟨S8x4x8x2048x2048, .f32⟩
  | .hbm, ⟨21, _⟩ => ⟨S1x4x8x1x1, .f32⟩
  | .hbm, ⟨22, _⟩ => ⟨S8x4x8x2048x2048, .f32⟩
  | .hbm, ⟨23, _⟩ => ⟨S8x4x8x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .i32⟩
  | .hbm, ⟨32, _⟩ => ⟨S2048x1, .i32⟩
  | .hbm, ⟨33, _⟩ => ⟨S2048x1, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S8x4x8x2048x2048, .i1⟩
  | .hbm, ⟨41, _⟩ => ⟨S8x4x8x2048x2048, .f32⟩
  | .hbm, ⟨42, _⟩ => ⟨S8x4x8x2048x2048, .f32⟩
  | .hbm, ⟨43, _⟩ => ⟨S_, .f32⟩
  | .hbm, ⟨44, _⟩ => ⟨S8x4x8x2048, .f32⟩
  | .hbm, ⟨45, _⟩ => ⟨S_, .f32⟩
  | .hbm, ⟨46, _⟩ => ⟨S8x4x8x2048, .f32⟩
  | .hbm, ⟨47, _⟩ => ⟨S8x4x8x2048, .f32⟩
  | .hbm, ⟨48, _⟩ => ⟨S8x4x8x2048x1, .f32⟩
  | .hbm, ⟨49, _⟩ => ⟨S8x4x8x2048x2048, .f32⟩
  | .hbm, ⟨50, _⟩ => ⟨S8x4x8x2048x2048, .f32⟩
  | .hbm, ⟨51, _⟩ => ⟨S8x4x8x2048x2048, .f32⟩
  | .hbm, ⟨52, _⟩ => ⟨S_, .f32⟩
  | .hbm, ⟨53, _⟩ => ⟨S8x4x8x2048, .f32⟩
  | .hbm, ⟨54, _⟩ => ⟨S8x4x8x2048x1, .f32⟩
  | .hbm, ⟨55, _⟩ => ⟨S8x4x8x2048x1, .f32⟩
  | .hbm, ⟨56, _⟩ => ⟨S8x4x8x2048x2048, .f32⟩
  | .hbm, ⟨57, _⟩ => ⟨S8x4x8x2048x2048, .f32⟩
  | .hbm, ⟨58, _⟩ => ⟨S8x4x8x2048x2048, .f32⟩
  | .hbm, ⟨59, _⟩ => ⟨S8x4x8x2048x2048, .bf16⟩
  | .hbm, ⟨60, _⟩ => ⟨S8x4x128x8x2048, .f32⟩
  | .hbm, ⟨61, _⟩ => ⟨S8x2048x4x8x128, .f32⟩
  | .hbm, ⟨62, _⟩ => ⟨S1x1x4x1x1, .f32⟩
  | .hbm, ⟨63, _⟩ => ⟨S8x2048x4x8x128, .f32⟩
  | .hbm, ⟨64, _⟩ => ⟨S8x2048x4x8x128, .f32⟩
  | .hbm, ⟨65, _⟩ => ⟨S8x2048x4096, .f32⟩
  | .hbm, ⟨66, _⟩ => ⟨S8x2048x4096, .bf16⟩
  | .local _ .vmem, ⟨0, _⟩ => ⟨S8x2048x4096, .fp8e4m3⟩
  | .local _ .vmem, ⟨1, _⟩ => ⟨S8x2048x512, .fp8e4m3⟩
  | .local _ .vmem, ⟨2, _⟩ => ⟨S8x2048x512, .fp8e4m3⟩
  | .local _ .vmem, ⟨3, _⟩ => ⟨S8x2048x4096, .bf16⟩
  | .local _ .vmem, ⟨4, _⟩ => ⟨S8x2048x512, .bf16⟩
  | .local _ .vmem, ⟨5, _⟩ => ⟨S8x2048x512, .bf16⟩
  | _, _ => ⟨S8x2048x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Model.lean ====
/- The kernel's body at one grid point, as a function of the block it works on: the tiles of scores, their column maxima,
   the weighted sums, each written once for any query block, head pair and key tile. -/
module

public import proofs.«01_k».proof.Proof.Gen.KernelIdeal.Value

@[expose] public section

set_option maxRecDepth 16384

noncomputable section

namespace Cert.KernelIdeal.Model

open Idealize.ShloMosaic Idealize.ShloMosaic.TcCoe Idealize.SL.Sem
open Cert.KernelIdeal Cert.KernelIdeal.Gen

variable {F : FTy → Type} [FloatOps F] [Named F]

/-- What the body is run on: the grid point, its buffers and what the input buffers hold. -/
structure Env (F : FTy → Type) where
  i : grid0.Coords
  arg2 : Memref sig .tc .smem S32 .f32
  h2 : arg2.IsWhole
  arg3 : Memref sig .tc .smem S4 .f32
  h3 : arg3.IsWhole
  arg4 : Memref sig .tc .smem S4 .f32
  h4 : arg4.IsWhole
  arg5 : Memref sig .tc .vmem S1x2048x1024 .fp8e4m3
  h5 : arg5.IsWhole
  arg6 : Memref sig .tc .vmem S1x2048x128 .fp8e4m3
  h6 : arg6.IsWhole
  arg7 : Memref sig .tc .vmem S1x2048x128 .fp8e4m3
  h7 : arg7.IsWhole
  arg9 : Memref sig .tc .vmem S144x2048 .bf16
  arg10 : Memref sig .tc .vmem S2x1152x256 .f32
  x0 : Vec F S32 .f32
  x1 : Vec F S4 .f32
  x2 : Vec F S4 .f32
  x3 : Vec F S1x2048x1024 .fp8e4m3
  x4 : Vec F S1x2048x128 .fp8e4m3
  x5 : Vec F S1x2048x128 .fp8e4m3

/-! ## Rectangles -/

theorem inbQ (a : Fin 16) (h : Fin 8) : ∀ d, (![0, 128 * a.val, 128 * h.val] : Fin 3 → Nat) d + S1x128x128.size d ≤ S1x2048x1024.size d := by
  intro d; fin_cases d <;> simp [Fin.forall_fin_succ] <;> omega

theorem inbK (j : Fin 16) : ∀ d, (![0, 128 * j.val, 0] : Fin 3 → Nat) d + S1x128x128.size d ≤ S1x2048x128.size d := by
  intro d; fin_cases d <;> simp <;> omega

theorem inbT (s : Fin 2) (n : Fin 9) : ∀ d, (![s.val, 128 * n.val, 0] : Fin 3 → Nat) d + S1x128x256.size d ≤ S2x1152x256.size d := by
  intro d; fin_cases d <;> simp <;> omega

theorem inbTT (s : Fin 2) (n : Fin 8) : ∀ d, (![s.val, 128 * n.val, 0] : Fin 3 → Nat) d + S1x256x256.size d ≤ S2x1152x256.size d := by
  intro d; fin_cases d <;> simp <;> omega

theorem inbV (j : Fin 16) : ∀ d, (![0, 128 * j.val] : Fin 2 → Nat) d + S144x128.size d ≤ S144x2048.size d := by
  intro d; fin_cases d <;> simp <;> omega

theorem inbVV (j : Fin 15) : ∀ d, (![0, 128 * j.val] : Fin 2 → Nat) d + S144x256.size d ≤ S144x2048.size d := by
  intro d; fin_cases d <;> simp <;> omega

/-! ## The tiles of scores of one query block and head pair -/

/-- Which of a unit's 256 columns a position is in (the query's place in its block) minus its row (the key's place in its tile). -/
def dif : IVec S128x256 32 :=
  let v11 := iota Kind.tc S128x256 32 [1] Gen.iota_S128x256_d1_w32
  let v14 := broadcast S128x256 128#32
  let v16 := broadcast S128x256 0#32
  let v17 := cmpi .ne (remsi v11 v14) v16
  let v19 := cmpi .slt (remsi v11 v14) v16
  let v23 := xori v19 (broadcastTo S128x256 (broadcast S128x256 0#1) Gen.broadcasts_S128x256_S128x256)
  subi (select (andi v23 v17) (addi (remsi v11 v14) v14) (remsi v11 v14)) (iota Kind.tc S128x256 32 [0] Gen.iota_S128x256_d0_w32)

/-- The first key tile a query block attends to. -/
def lo (i : ℕ) : ℕ := i - 8

variable (E : Env F)

/-- The 128 queries of block `i`, head `h` of the eight of the group. -/
def qTile (i : Fin 16) (h : Fin 8) : FVec F S128x128 .fp8e4m3 :=
  shapeCast S128x128 (View.readAt (Elt F) E.arg5.view (Rect.unit (s := S1x2048x1024) ![0, 128 * i.val, 128 * h.val] S1x128x128.size (inbQ i h)).toLoadRect (E.h5.unread E.x3)) Gen.shapeCasts_S1x128x128_S128x128

/-- The queries of the two heads of pair `p`, one under the other. -/
def qPair (i : Fin 16) (p : ℕ) : FVec F S256x128 .fp8e4m3 :=
  concatenate S256x128 0 [⟨S128x128, qTile E i (Fin.ofNat 8 (2 * p))⟩, ⟨S128x128, qTile E i (Fin.ofNat 8 (2 * p + 1))⟩] Gen.concatenates_S128x128_S128x128_S256x128_d0

/-- The score scale of head `n` of pair `p`, times log₂ e. -/
def coef (p : Fin 4) (n : Fin 2) : F .f32 :=
  Scalar.mulf (Scalar.mulf (Scalar.mulf
    (View.readAt (Elt F) E.arg2.view (Rect.unit (s := S32) (k0_off1 E.i (BitVec.ofNat 32 (2 * p.val)) (BitVec.ofNat 32 n.val)) S1.size (Gen.k0_off1_inb E.i p n)).toLoadRect (E.h2.unread E.x0) (Shape.Idx.first (show 0 < S1.numel by decide)))
    (View.readAt (Elt F) E.arg3.view (Rect.unit (s := S4) (k0_off2 E.i) S1.size (Gen.k0_off2_inb E.i)).toLoadRect (E.h3.unread E.x1) (Shape.Idx.first (show 0 < S1.numel by decide))))
    (Scalar.ofBits .f32 0x3DB504F3#32)) (Named.named κ "log2e" 0x3FB8AA3B#32)

/-- The scale of every column. -/
def scales (p : Fin 4) : FVec F S1x256 .f32 :=
  concatenate S1x256 1 [⟨S1x128, broadcast S1x128 (coef E p 0)⟩, ⟨S1x128, broadcast S1x128 (coef E p 1)⟩] Gen.concatenates_S1x128_S1x128_S1x256_d1

/-- The 128 keys of tile `j`. -/
def kTile (j : Fin 16) : FVec F S128x128 .fp8e4m3 :=
  shapeCast S128x128 (View.readAt (Elt F) E.arg6.view (Rect.unit (s := S1x2048x128) ![0, 128 * j.val, 0] S1x128x128.size (inbK j)).toLoadRect (E.h6.unread E.x4)) Gen.shapeCasts_S1x128x128_S128x128

/-- The scaled products of tile `j`'s keys (rows) with the pair's queries (columns). -/
def raw (i : Fin 16) (p : ℕ) (j : Fin 16) : FVec F S128x256 .f32 :=
  mulf (matmul dot_S128x128_S256x128_S128x256_1_1_0_0_n_n none (kTile E j) (qPair E i p) (constant S128x256 .f32 0x00000000#32))
    (broadcastTo S128x256 (scales E (Fin.ofNat 4 p)) Gen.broadcasts_S1x256_S128x256)

/-- What stands at a position the mask hides. -/
def hidden : FVec F S128x256 .f32 := broadcast S128x256 (Named.named κ "mask" 0xF149F2CA#32)

/-- A tile `d` tiles before the query block, masked. -/
def masked (d : ℕ) (t : FVec F S128x256 .f32) : FVec F S128x256 .f32 :=
  bif Nat.beq d 0 then select (cmpi .sge dif (broadcast S128x256 0#32)) t hidden
  else bif Nat.beq d 7 then select (cmpi .slt dif (broadcast S128x256 104#32)) t hidden
  else bif Nat.beq d 8 then select (cmpi .slt dif (broadcast S128x256 4294967272#32)) t hidden
  else t

/-- The `n`-th tile of scores of a unit. -/
def tile (i p n : ℕ) : FVec F S128x256 .f32 :=
  masked (i - (lo i + n)) (raw E (Fin.ofNat 16 i) p (Fin.ofNat 16 (lo i + n)))

/-- The stores of a unit's first `n` tiles into slot `s`, latest first, before `L`. -/
def stores (s : Fin 2) (i p : ℕ) (L : List (View.Piece (Elt F) S2x1152x256 .f32)) : ℕ → List (View.Piece (Elt F) S2x1152x256 .f32)
  | 0 => L
  | n + 1 => ⟨Rect.unit (s := S2x1152x256) ![s.val, 128 * (Fin.ofNat 9 n).val, 0] S1x128x256.size (inbT s (Fin.ofNat 9 n)), shapeCast S1x128x256 (tile E i p n) Gen.shapeCasts_S128x256_S1x128x256⟩
      :: stores s i p L n

/-- The maximum over a tile's 16 groups of 8 rows. -/
def tileMax (i p n : ℕ) : FVec F S8x256 .f32 :=
  multiReduction .maximumf [0] S8x256 (shapeCast S16x8x256 (tile E i p n) Gen.shapeCasts_S128x256_S16x8x256) 0xFF800000#32 Gen.reduces_S16x8x256_S8x256 (.inl rfl) rfl

/-- The maximum over a unit's first `n + 1` tiles. -/
def maxUpTo (i p : ℕ) : ℕ → FVec F S8x256 .f32
  | 0 => tileMax E i p 0
  | n + 1 => maximumf (maxUpTo i p n) (tileMax E i p (n + 1))

/-- The maximum of every column of a unit. -/
def colMax (i p : ℕ) : FVec F S1x256 .f32 :=
  shapeCast S1x256 (multiReduction .maximumf [0] S256 (maxUpTo E i p (i - lo i)) 0xFF800000#32 Gen.reduces_S8x256_S256 (.inl rfl) rfl) Gen.shapeCasts_S256_S1x256

/-! ## The weighted sums -/

/-- The values transposed, and the rows of ones below them. -/
def vt : List (View.Piece (Elt F) S144x2048 .bf16) :=
  [⟨Rect.unit (s := S144x2048) ![128, 0] S16x2048.size Gen.inb_S144x2048_S16x2048_128_0, shapeCast S16x2048 (broadcast S16x2048 (Scalar.ofBits .bf16 0x3F80#16)) Gen.shapeCasts_S16x2048_S16x2048⟩,
   ⟨Rect.unit (s := S144x2048) ![0, 0] S128x2048.size Gen.inb_S144x2048_S128x2048_0_0, shapeCast S128x2048 (transpose S128x2048 [1, 0] (extf .bf16 (shapeCast S2048x128
      (View.readAt (Elt F) E.arg7.view (Rect.unit (s := S1x2048x128) ![0, 0, 0] S1x2048x128.size Gen.inb_S1x2048x128_S1x2048x128_0_0_0).toLoadRect (E.h7.unread E.x5)) Gen.shapeCasts_S1x2048x128_S2048x128) Gen.bitsLt_fp8e4m3_bf16) Gen.transposes_S2048x128_p1_0_S128x2048) Gen.shapeCasts_S128x2048_S128x2048⟩]

/-- Two tiles' weights times their values. -/
def pair (L : List (View.Piece (Elt F) S2x1152x256 .f32)) (m : FVec F S1x256 .f32) (s : Fin 2) (i c : ℕ) : FVec F S144x256 .f32 :=
  matmul dot_S144x256_S256x256_S144x256_1_0_0_1_n_n none
    (E.arg9.view.readCov (vt E) (Rect.unit (s := S144x2048) ![0, 128 * (Fin.ofNat 15 (lo i + 2 * c)).val] S144x256.size (inbVV _)).toLoadRect)
    (truncf .bf16 (exp2 (subf (shapeCast S256x256 (E.arg10.view.readCov L (Rect.unit (s := S2x1152x256) ![s.val, 128 * (Fin.ofNat 8 (2 * c)).val, 0] S1x256x256.size (inbTT s _)).toLoadRect) Gen.shapeCasts_S1x256x256_S256x256)
      (broadcastTo S256x256 m Gen.broadcasts_S1x256_S256x256))) Gen.bitsLt_bf16_f32)
    (constant S144x256 .f32 0x00000000#32)

/-- One tile's weights times its values. -/
def single (L : List (View.Piece (Elt F) S2x1152x256 .f32)) (m : FVec F S1x256 .f32) (s : Fin 2) (i n : ℕ) : FVec F S144x256 .f32 :=
  matmul dot_S144x128_S128x256_S144x256_1_0_0_1_n_n none
    (E.arg9.view.readCov (vt E) (Rect.unit (s := S144x2048) ![0, 128 * (Fin.ofNat 16 (lo i + n)).val] S144x128.size (inbV _)).toLoadRect)
    (truncf .bf16 (exp2 (subf (shapeCast S128x256 (E.arg10.view.readCov L (Rect.unit (s := S2x1152x256) ![s.val, 128 * (Fin.ofNat 9 n).val, 0] S1x128x256.size (inbT s _)).toLoadRect) Gen.shapeCasts_S1x128x256_S128x256)
      (broadcastTo S128x256 m Gen.broadcasts_S1x256_S128x256))) Gen.bitsLt_bf16_f32)
    (constant S144x256 .f32 0x00000000#32)

/-- The sum over the first `c + 1` pairs of tiles. -/
def pairs (L : List (View.Piece (Elt F) S2x1152x256 .f32)) (m : FVec F S1x256 .f32) (s : Fin 2) (i : ℕ) : ℕ → FVec F S144x256 .f32
  | 0 => pair E L m s i 0
  | c + 1 => addf (pairs L m s i c) (pair E L m s i (c + 1))

/-- The sum over all of a unit's tiles, `n + 1` of them: the weighted values and, below them, the weights' total. -/
def total (L : List (View.Piece (Elt F) S2x1152x256 .f32)) (m : FVec F S1x256 .f32) (s : Fin 2) (i n : ℕ) : FVec F S144x256 .f32 :=
  bif Nat.beq n 0 then single E L m s i 0
  else bif Nat.beq (n % 2) 0 then addf (pairs E L m s i (n / 2 - 1)) (single E L m s i n)
  else pairs E L m s i (n / 2)

/-- The weighted values times the value scale over the weights' total. -/
def normed (a : FVec F S144x256 .f32) : FVec F S128x256 .f32 :=
  mulf (extractStridedSlice S128x256 ![0, 0] a Gen.slices_S144x256_o0_0_S128x256)
    (broadcastTo S128x256 (divf (broadcast S1x256 (View.readAt (Elt F) E.arg4.view (Rect.unit (s := S4) (k0_off2 E.i) S1.size (Gen.k0_off2_inb E.i)).toLoadRect (E.h4.unread E.x2) (Shape.Idx.first (show 0 < S1.numel by decide))))
      (extractStridedSlice S1x256 ![128, 0] a Gen.slices_S144x256_o128_0_S1x256)) Gen.broadcasts_S1x256_S128x256)

/-- The block stored for the left head of a pair. -/
def left (o : FVec F S128x256 .f32) : FVec F S1x128x128 .bf16 :=
  shapeCast S1x128x128 (truncf .bf16 (transpose S128x128 [1, 0] (extractStridedSlice S128x128 ![0, 0] o Gen.slices_S128x256_o0_0_S128x128) Gen.transposes_S128x128_p1_0_S128x128) Gen.bitsLt_bf16_f32) Gen.shapeCasts_S128x128_S1x128x128

/-- The block stored for the right head of a pair. -/
def right (o : FVec F S128x256 .f32) : FVec F S1x128x128 .bf16 :=
  shapeCast S1x128x128 (truncf .bf16 (transpose S128x128 [1, 0] (extractStridedSlice S128x128 ![0, 128] o Gen.slices_S128x256_o0_128_S128x128) Gen.transposes_S128x128_p1_0_S128x128) Gen.bitsLt_bf16_f32) Gen.shapeCasts_S128x128_S1x128x128

/-! ## The units in order -/

/-- The score stores of the first `u` units, latest first; unit `u` is query block `u / 4`, head pair `u % 4`. -/
def allStores : ℕ → List (View.Piece (Elt F) S2x1152x256 .f32)
  | 0 => []
  | u + 1 => stores E (Fin.ofNat 2 u) (u / 4) (u % 4) (allStores u) (u / 4 - lo (u / 4) + 1)

/-- What unit `u` stores: scores are read after those of the next unit have been stored too. -/
def unitOut (u : ℕ) : FVec F S128x256 .f32 :=
  normed E (total E (allStores E (bif Nat.beq u 63 then 64 else u + 2)) (colMax E (u / 4) (u % 4)) (Fin.ofNat 2 u) (u / 4) (u / 4 - lo (u / 4)))

/-- The stores of the first `u` units into the output block, latest first. -/
def outs : ℕ → List (View.Piece (Elt F) S1x2048x1024 .bf16)
  | 0 => []
  | u + 1 =>
    ⟨Rect.unit (s := S1x2048x1024) ![0, 128 * (Fin.ofNat 16 (u / 4)).val, 128 * (Fin.ofNat 8 (2 * (u % 4) + 1)).val] S1x128x128.size (inbQ _ _), right (unitOut E u)⟩
      :: ⟨Rect.unit (s := S1x2048x1024) ![0, 128 * (Fin.ofNat 16 (u / 4)).val, 128 * (Fin.ofNat 8 (2 * (u % 4))).val] S1x128x128.size (inbQ _ _), left (unitOut E u)⟩
      :: outs u

end Cert.KernelIdeal.Model

end
-- ==== Proof.Run.lean ====
/- The stores the kernel's run makes into its output block are the model's. -/
module

public import proofs.«01_k».proof.Proof.Model

@[expose] public section

set_option maxRecDepth 16384

noncomputable section

namespace Cert.KernelIdeal.Model

open Idealize.ShloMosaic Idealize.ShloMosaic.TcCoe Idealize.SL.Sem Idealize.ShloMosaic.Tactic
open Cert.KernelIdeal Cert.KernelIdeal.Gen

variable {F : FTy → Type} [FloatOps F] [Named F]

set_option maxHeartbeats 4000000 in
/-- What the body leaves in its output block, store by store. -/
theorem run_eq (c : Dev nD) (i : grid0.Coords) (arg2 : Memref sig .tc .smem S32 .f32) (harg2 : arg2.IsWhole) (arg3 : Memref sig .tc .smem S4 .f32) (harg3 : arg3.IsWhole) (arg4 : Memref sig .tc .smem S4 .f32) (harg4 : arg4.IsWhole) (arg5 : Memref sig .tc .vmem S1x2048x1024 .fp8e4m3) (harg5 : arg5.IsWhole) (arg6 : Memref sig .tc .vmem S1x2048x128 .fp8e4m3) (harg6 : arg6.IsWhole) (arg7 : Memref sig .tc .vmem S1x2048x128 .fp8e4m3) (harg7 : arg7.IsWhole) (arg8 : Memref sig .tc .vmem S1x2048x1024 .bf16) (harg8 : arg8.IsWhole) (arg9 : Memref sig .tc .vmem S144x2048 .bf16) (harg9 : arg9.IsWhole) (arg10 : Memref sig .tc .vmem S2x1152x256 .f32) (harg10 : arg10.IsWhole)
    (x0 : Vec F S32 .f32) (x1 : Vec F S4 .f32) (x2 : Vec F S4 .f32) (x3 : Vec F S1x2048x1024 .fp8e4m3) (x4 : Vec F S1x2048x128 .fp8e4m3) (x5 : Vec F S1x2048x128 .fp8e4m3) :
    (kernelRun0_A c i arg2 harg2 arg3 harg3 arg4 harg4 arg5 harg5 arg6 harg6 arg7 harg7 arg8 harg8 arg9 harg9 arg10 harg10 x0 x1 x2 x3 x4 x5).1
      = outs ⟨i, arg2, harg2, arg3, harg3, arg4, harg4, arg5, harg5, arg6, harg6, arg7, harg7, arg9, arg10, x0, x1, x2, x3, x4, x5⟩ 64 := by
  sl_kernel_rfl

end Cert.KernelIdeal.Model

end
-- ==== Proof.Tiles.lean ====
/- The tiles of scores at an element. -/
module

public import proofs.«01_k».proof.Proof.Model
public import Idealize.ShloMosaic.Lib.Pipeline.ValueKit
public import Idealize.ShloMosaic.Lib.WholeRead

@[expose] public section

set_option maxRecDepth 16384

noncomputable section

namespace Cert.KernelIdeal.Model

open Idealize.ShloMosaic Idealize.ShloMosaic.TcCoe Idealize.SL.Sem
open Cert.KernelIdeal Cert.KernelIdeal.Gen

variable (E : Env Ideal)

/-- A load of a rectangle of a whole buffer reads what the buffer holds there. -/
theorem readAt_ld {sig : RefSig} {κ : Kind} {sp : Space} {s : Shape} {e : EltTy} {m : Memref sig κ sp s e} (h : m.IsWhole)
    (X : s.Idx → Elt Ideal e) (r : Rect s) :
    View.readAt (Elt Ideal) m.view r.toLoadRect (h.unread X) = View.ld (Val := Elt Ideal) X r := by
  funext x; exact Memref.IsWhole.readAt_unread h X r.toLoadRect x

/-- Dropping the leading unit axis of a block moves nothing. -/
theorem drop_at {α : Type} (f : S1x128x128.Idx → α) (h : S1x128x128.ShapeCasts S128x128) (q d : Fin 128) :
    shapeCast S128x128 f h (ix2 q d) = f (ix3 0 q d) := by
  pointwise

/-- A query block at an element. -/
theorem qTile_at (i : Fin 16) (h : Fin 8) (q d : Fin 128) :
    qTile E i h (ix2 q d) = E.x3 (ix3 0 ⟨128 * i.val + q.val, by omega⟩ ⟨128 * h.val + d.val, by omega⟩) := by
  unfold qTile
  rw [readAt_ld, drop_at]
  refine congrArg E.x3 (funext fun a => Fin.ext ?_)
  match a with
  | ⟨0, _⟩ => exact ValueKit.rect_emb_unit_val _ _ _ _ _
  | ⟨1, _⟩ => exact ValueKit.rect_emb_unit_val _ _ _ _ _
  | ⟨2, _⟩ => exact ValueKit.rect_emb_unit_val _ _ _ _ _

/-- A key tile at an element. -/
theorem kTile_at (j : Fin 16) (r d : Fin 128) :
    kTile E j (ix2 r d) = E.x4 (ix3 0 ⟨128 * j.val + r.val, by omega⟩ d) := by
  unfold kTile
  rw [readAt_ld, drop_at]
  refine congrArg E.x4 (funext fun a => Fin.ext ?_)
  match a with
  | ⟨0, _⟩ => exact ValueKit.rect_emb_unit_val _ _ _ _ _
  | ⟨1, _⟩ => exact ValueKit.rect_emb_unit_val _ _ _ _ _
  | ⟨2, _⟩ => exact (ValueKit.rect_emb_unit_val _ _ _ _ _).trans (Nat.zero_add _)

/-- Column `c` of a pair is query `c mod 128` of head `c / 128` of the pair. -/
theorem qPair_at (i : Fin 16) (p : ℕ) (c : Fin 256) (d : Fin 128) :
    qPair E i p (ix2 c d) = E.x3 (ix3 0 ⟨128 * i.val + c.val % 128, by omega⟩ ⟨128 * (Fin.ofNat 8 (2 * p + c.val / 128)).val + d.val, by omega⟩) := by
  pointwise [qPair, qTile_at]
  by_cases h : c.val < 128
  · rw [dif_pos h]
    have h1 : c.val % 128 = c.val := by omega
    have h2 : c.val / 128 = 0 := by omega
    simp only [h1, h2, Nat.add_zero]
  · rw [dif_neg h]
    have h1 : c.val % 128 = c.val - 128 := by omega
    have h2 : c.val / 128 = 1 := by omega
    simp only [h1, h2]

/-- The number the kernel's text names `log2e`. -/
theorem log2e_eq : (Named.named κ "log2e" 0x3FB8AA3B#32 : Ideal .f32) = (((Real.log 2)⁻¹ : ℝ) : EReal) := by
  rfl

/-- What the kernel's text names `mask`. -/
theorem mask_eq : (Named.named κ "mask" 0xF149F2CA#32 : Ideal .f32) = ⊥ := rfl

/-- The score scale of head `h` of the group. -/
def qk (g : Fin 4) (h : Fin 8) : EReal :=
  (E.x0 (ix1 ⟨8 * g.val + h.val, by omega⟩) * E.x1 (ix1 g) : EReal) * (FloatOps.ofBits (F := Ideal) .f32 0x3DB504F3#32 : EReal)

/-- The scale of a column's scores, as the kernel applies it. -/
theorem coef_at (p : Fin 4) (n : Fin 2) : coef E p n = qk E (E.i 1) (Fin.ofNat 8 (2 * p.val + n.val)) * (((Real.log 2)⁻¹ : ℝ) : EReal) := by
  unfold coef
  rw [readAt_ld, readAt_ld, log2e_eq]
  pointwise [qk]
  have h1 : k0_off1 E.i (BitVec.ofNat 32 (2 * p.val)) (BitVec.ofNat 32 n.val) 0 = 8 * (E.i 1).val + (Fin.ofNat 8 (2 * p.val + n.val)).val := by
    rw [k0_off1_eq]
    show 8 * (E.i 1).val + 2 * p.val + n.val = 8 * (E.i 1).val + (2 * p.val + n.val) % 8
    omega
  have h2 : k0_off2 E.i 0 = (E.i 1).val := by rw [k0_off2_eq]; rfl
  simp only [h1, h2]
  rfl

/-- The score of a query against a key, before the mask. -/
def score (q : Fin 2048) (h : Fin 8) (k : Fin 2048) : EReal :=
  (∑ x : Fin 128, (E.x3 (ix3 0 q ⟨128 * h.val + x.val, by omega⟩) * E.x4 (ix3 0 k x) : EReal)) * qk E (E.i 1) h

/-- A tile before the mask: the scores times log₂ e. -/
theorem raw_at (i : Fin 16) (p : ℕ) (j : Fin 16) (r : Fin 128) (c : Fin 256) (hp : p < 4) :
    raw E i p j (ix2 r c) = score E ⟨128 * i.val + c.val % 128, by omega⟩ (Fin.ofNat 8 (2 * p + c.val / 128)) ⟨128 * j.val + r.val, by omega⟩
      * (((Real.log 2)⁻¹ : ℝ) : EReal) := by
  pointwise [raw, kTile_at, qPair_at, scales]
  have hp4 : (Fin.ofNat 4 p).val = p := Nat.mod_eq_of_lt hp
  have hc : (if h : c.val < 128 then coef E (Fin.ofNat 4 p) 0 else coef E (Fin.ofNat 4 p) 1)
      = qk E (E.i 1) (Fin.ofNat 8 (2 * p + c.val / 128)) * (((Real.log 2)⁻¹ : ℝ) : EReal) := by
    by_cases h : c.val < 128
    · rw [dif_pos h, coef_at, hp4, show c.val / 128 = 0 by omega]; rfl
    · rw [dif_neg h, coef_at, hp4, show c.val / 128 = 1 by omega]; rfl
  rw [hc, ← mul_assoc]
  congr 2
  exact Finset.sum_congr rfl fun x _ => mul_comm _ _

/-- A column's place in its query block. -/
theorem col_mod : ∀ c : Fin 256,
    Scalar.select
        (IntOp.andi
          (IntOp.xori (IntOp.cmpi CmpIPredicate.slt (IntOp.remsi ArithUnit.vector (BitVec.ofNat 32 c.val) 128#32) 0#32) 0#1)
          (IntOp.cmpi CmpIPredicate.ne (IntOp.remsi ArithUnit.vector (BitVec.ofNat 32 c.val) 128#32) 0#32))
        (IntOp.addi (IntOp.remsi ArithUnit.vector (BitVec.ofNat 32 c.val) 128#32) 128#32)
        (IntOp.remsi ArithUnit.vector (BitVec.ofNat 32 c.val) 128#32) = BitVec.ofNat 32 (c.val % 128) := by
  decide +kernel

theorem dif_at (r : Fin 128) (c : Fin 256) : dif (ix2 r c) = IntOp.subi (BitVec.ofNat 32 (c.val % 128)) (BitVec.ofNat 32 r.val) := by
  pointwise [dif]
  rw [col_mod]

/-- The masks of the query block's own tile and of the two tiles at the window's far edge, decided over all positions. -/
theorem mask0 : ∀ a r : Fin 128, IntOp.cmpi .sge (IntOp.subi (BitVec.ofNat 32 a.val) (BitVec.ofNat 32 r.val)) 0#32 = if r.val ≤ a.val then 1#1 else 0#1 := by
  decide +kernel

theorem mask7 : ∀ a r : Fin 128, IntOp.cmpi .slt (IntOp.subi (BitVec.ofNat 32 a.val) (BitVec.ofNat 32 r.val)) 104#32 = if a.val < r.val + 104 then 1#1 else 0#1 := by
  decide +kernel

theorem mask8 : ∀ a r : Fin 128, IntOp.cmpi .slt (IntOp.subi (BitVec.ofNat 32 a.val) (BitVec.ofNat 32 r.val)) 4294967272#32 = if a.val + 24 < r.val then 1#1 else 0#1 := by
  decide +kernel

/-- A masked score times log₂ e, as the kernel's tiles hold it. -/
def visible (q : Fin 2048) (h : Fin 8) (k : Fin 2048) : EReal :=
  if k.val ≤ q.val ∧ q.val < k.val + 1000 then score E q h k * (((Real.log 2)⁻¹ : ℝ) : EReal) else ⊥

/-- A tile of a unit at an element: the masked score of its query against its key. -/
theorem tile_at (i p n : ℕ) (hi : i < 16) (hp : p < 4) (hn : lo i + n ≤ i) (r : Fin 128) (c : Fin 256) :
    tile E i p n (ix2 r c) = visible E ⟨128 * i + c.val % 128, by omega⟩ (Fin.ofNat 8 (2 * p + c.val / 128))
      ⟨128 * (lo i + n) + r.val, by omega⟩ := by
  have hraw := raw_at E (Fin.ofNat 16 i) p (Fin.ofNat 16 (lo i + n)) r c hp
  have e1 : (Fin.ofNat 16 i).val = i := Nat.mod_eq_of_lt hi
  have e2 : (Fin.ofNat 16 (lo i + n)).val = lo i + n := Nat.mod_eq_of_lt (by omega)
  simp only [e1, e2] at hraw
  have hlo : lo i = i - 8 := rfl
  have key : ∀ (P : Prop) [Decidable P] (b : BitVec 1) (hb : b = if P then 1#1 else 0#1) (x : EReal),
      Scalar.select b x (⊥ : EReal) = if P then x else ⊥ := fun P _ b hb x => by
    subst hb; by_cases h : P <;> simp only [h, if_true, if_false] <;> rfl
  have hmod : c.val % 128 < 128 := Nat.mod_lt _ (by norm_num)
  obtain ⟨d, hd⟩ : ∃ d, d = i - (lo i + n) := ⟨_, rfl⟩
  have hd8 : d ≤ 8 := by omega
  unfold tile masked
  rw [← hd]
  generalize hR : raw E (Fin.ofNat 16 i) p (Fin.ofNat 16 (lo i + n)) = R at hraw ⊢
  generalize hS : score E _ _ _ * (((Real.log 2)⁻¹ : ℝ) : EReal) = S at hraw
  have hvis : visible E ⟨128 * i + c.val % 128, by omega⟩ (Fin.ofNat 8 (2 * p + c.val / 128)) ⟨128 * (lo i + n) + r.val, by omega⟩
      = if 128 * (lo i + n) + r.val ≤ 128 * i + c.val % 128 ∧ 128 * i + c.val % 128 < 128 * (lo i + n) + r.val + 1000 then S else ⊥ := by
    unfold visible; rw [hS]
  rw [hvis]
  by_cases h0 : d = 0
  · rw [h0]
    show Scalar.select (IntOp.cmpi .sge (dif (ix2 r c)) 0#32) (R (ix2 r c)) (⊥ : EReal) = _
    rw [hraw, dif_at, key _ _ (mask0 ⟨c.val % 128, hmod⟩ r)]
    exact if_congr (by show r.val ≤ c.val % 128 ↔ _; omega) rfl rfl
  by_cases h7 : d = 7
  · rw [h7]
    show Scalar.select (IntOp.cmpi .slt (dif (ix2 r c)) 104#32) (R (ix2 r c)) (⊥ : EReal) = _
    rw [hraw, dif_at, key _ _ (mask7 ⟨c.val % 128, hmod⟩ r)]
    exact if_congr (by show c.val % 128 < r.val + 104 ↔ _; omega) rfl rfl
  by_cases h8 : d = 8
  · rw [h8]
    show Scalar.select (IntOp.cmpi .slt (dif (ix2 r c)) 4294967272#32) (R (ix2 r c)) (⊥ : EReal) = _
    rw [hraw, dif_at, key _ _ (mask8 ⟨c.val % 128, hmod⟩ r)]
    exact if_congr (by show c.val % 128 + 24 < r.val ↔ _; omega) rfl rfl
  have b0 : Nat.beq d 0 = false := Bool.eq_false_iff.mpr fun h => h0 (Nat.eq_of_beq_eq_true h)
  have b7 : Nat.beq d 7 = false := Bool.eq_false_iff.mpr fun h => h7 (Nat.eq_of_beq_eq_true h)
  have b8 : Nat.beq d 8 = false := Bool.eq_false_iff.mpr fun h => h8 (Nat.eq_of_beq_eq_true h)
  rw [b0, b7, b8]
  show R (ix2 r c) = _
  rw [hraw, if_pos (by omega)]

end Cert.KernelIdeal.Model

end
-- ==== Proof.Scratch.lean ====
/- What the two scratch buffers hold when they are read: the tiles of scores of a unit, and the transposed values over rows of ones. -/
module

public import proofs.«01_k».proof.Proof.Tiles
public import Idealize.ShloMosaic.Lib.WritesUnit
public import Idealize.ShloMosaic.Lib.IdealHost

@[expose] public section

set_option maxRecDepth 16384

noncomputable section

namespace Cert.KernelIdeal.Model

open Idealize.ShloMosaic Idealize.ShloMosaic.TcCoe Idealize.SL.Sem
open Cert.KernelIdeal Cert.KernelIdeal.Gen

variable (E : Env Ideal)

/-- What the score scratch reads at an index after the stores `L`. -/
def atT (L : List (View.Piece (Elt Ideal) S2x1152x256 .f32)) (y : S2x1152x256.Idx) : EReal :=
  E.arg10.view.read (Elt Ideal) (E.arg10.view.writes (Elt Ideal) E.arg10.view.junk L) y

/-- What the value scratch reads at an index. -/
def atV (y : S144x2048.Idx) : EReal :=
  E.arg9.view.read (Elt Ideal) (E.arg9.view.writes (Elt Ideal) E.arg9.view.junk (vt E)) y

theorem add_unit_at {α : Type} (f : S128x256.Idx → α) (h : S128x256.ShapeCasts S1x128x256) (r : Fin 128) (c : Fin 256) :
    shapeCast S1x128x256 f h (ix3 0 r c) = f (ix2 r c) := by
  pointwise

/-- A unit's stores into its slot, read back: its tiles. -/
theorem stores_at (s : Fin 2) (i p : ℕ) (L : List (View.Piece (Elt Ideal) S2x1152x256 .f32)) (k n : ℕ) (hk : k ≤ 9) (hn : n < k)
    (r : Fin 128) (c : Fin 256) :
    atT E (stores E s i p L k) (ix3 s ⟨128 * n + r.val, by omega⟩ c) = tile E i p n (ix2 r c) := by
  induction k with
  | zero => omega
  | succ k ih =>
    have e9 : (Fin.ofNat 9 k).val = k := Nat.mod_eq_of_lt (by omega)
    by_cases h : n = k
    · subst h
      refine (View.read_writes_cons_unit_of_mem E.arg10.view E.arg10.view.junk (inbT s (Fin.ofNat 9 n)) _ _
        (ix3 s ⟨128 * n + r.val, by omega⟩ c) (ix3 0 r c) (off' := ![s.val, 128 * n, 0]) (by rw [e9]) ?_).trans (add_unit_at _ _ r c)
      intro a
      match a with
      | ⟨0, _⟩ => rfl
      | ⟨1, _⟩ => rfl
      | ⟨2, _⟩ => exact (Nat.zero_add _).symm
    · refine (View.read_writes_cons_unit_of_not_mem E.arg10.view E.arg10.view.junk (inbT s (Fin.ofNat 9 k)) _ _
        (ix3 s ⟨128 * n + r.val, by omega⟩ c) (off' := ![s.val, 128 * k, 0]) (by rw [e9]) (1 : Fin 3) (Or.inl ?_)).trans (ih (by omega) (by omega))
      show 128 * n + r.val < 128 * k
      omega

/-- A unit's stores leave the other slot as it was. -/
theorem stores_other (s s' : Fin 2) (hs : s' ≠ s) (i p : ℕ) (L : List (View.Piece (Elt Ideal) S2x1152x256 .f32)) (k : ℕ) (hk : k ≤ 9)
    (r : Fin 1152) (c : Fin 256) :
    atT E (stores E s i p L k) (ix3 s' r c) = atT E L (ix3 s' r c) := by
  induction k with
  | zero => rfl
  | succ k ih =>
    refine (View.read_writes_cons_unit_of_not_mem E.arg10.view E.arg10.view.junk (inbT s (Fin.ofNat 9 k)) _ _
        (ix3 s' r c) (off' := ![s.val, 128 * (Fin.ofNat 9 k).val, 0]) rfl (0 : Fin 3) ?_).trans (ih (by omega))
    show s'.val < s.val ∨ s.val + 1 ≤ s'.val
    have : s'.val ≠ s.val := fun h => hs (Fin.ext h)
    omega

/-- When a unit's weighted sums read the score scratch, its slot holds its tiles. -/
theorem scratch_at (u n : ℕ) (hu : u < 64) (hn : lo (u / 4) + n ≤ u / 4) (r : Fin 128) (c : Fin 256) :
    atT E (allStores E (bif Nat.beq u 63 then 64 else u + 2)) (ix3 (Fin.ofNat 2 u) ⟨128 * n + r.val, by unfold lo at hn; omega⟩ c)
      = tile E (u / 4) (u % 4) n (ix2 r c) := by
  have hlo : ∀ i, i - lo i ≤ 8 := fun i => by unfold lo; omega
  have h1 : atT E (allStores E (u + 1)) (ix3 (Fin.ofNat 2 u) ⟨128 * n + r.val, by unfold lo at hn; omega⟩ c)
      = tile E (u / 4) (u % 4) n (ix2 r c) :=
    stores_at E (Fin.ofNat 2 u) (u / 4) (u % 4) _ _ n (by have := hlo (u / 4); omega) (by omega) r c
  by_cases h : u = 63
  · subst h; exact h1
  · have hb : Nat.beq u 63 = false := Bool.eq_false_iff.mpr fun h' => h (Nat.eq_of_beq_eq_true h')
    rw [hb]
    refine (stores_other E (Fin.ofNat 2 (u + 1)) (Fin.ofNat 2 u) ?_ _ _ _ _ (by have := hlo ((u + 1) / 4); omega) _ c).trans h1
    intro h'
    have := congrArg Fin.val h'
    change u % 2 = (u + 1) % 2 at this
    omega

/-- The values transposed, over rows of ones. -/
def valueAt (a : Fin 144) (k : Fin 2048) : EReal := if h : a.val < 128 then E.x5 (ix3 0 k ⟨a.val, h⟩) else 1

theorem transposed_at (f : S1x2048x128.Idx → Elt Ideal .fp8e4m3) (a : Fin 128) (k : Fin 2048) :
    shapeCast S128x2048 (transpose S128x2048 [1, 0] (extf (F := Ideal) .bf16 (shapeCast S2048x128 f Gen.shapeCasts_S1x2048x128_S2048x128)
      Gen.bitsLt_fp8e4m3_bf16) Gen.transposes_S2048x128_p1_0_S128x2048) Gen.shapeCasts_S128x2048_S128x2048 (ix2 a k) = f (ix3 0 k a) := by
  pointwise

theorem ones_at (a : Fin 16) (k : Fin 2048) :
    shapeCast S16x2048 (broadcast S16x2048 (Scalar.ofBits (F := Ideal) .bf16 0x3F80#16)) Gen.shapeCasts_S16x2048_S16x2048 (ix2 a k) = (1 : EReal) := by
  pointwise

/-- The value scratch at an index. -/
theorem atV_eq (a : Fin 144) (k : Fin 2048) : atV E (ix2 a k) = valueAt E a k := by
  unfold valueAt
  by_cases h : a.val < 128
  · rw [dif_pos h]
    refine (View.read_writes_cons_unit_of_not_mem E.arg9.view E.arg9.view.junk Gen.inb_S144x2048_S16x2048_128_0 _ _
      (ix2 a k) (off' := ![128, 0]) rfl (0 : Fin 2) (Or.inl h)).trans ?_
    refine (View.read_writes_cons_unit_of_mem E.arg9.view E.arg9.view.junk Gen.inb_S144x2048_S128x2048_0_0 _ _
      (ix2 a k) (ix2 ⟨a.val, h⟩ k) (off' := ![0, 0]) rfl ?_).trans ?_
    · intro b
      match b with
      | ⟨0, _⟩ => exact (Nat.zero_add _).symm
      | ⟨1, _⟩ => exact (Nat.zero_add _).symm
    · refine (transposed_at _ ⟨a.val, h⟩ k).trans ?_
      refine (Memref.IsWhole.readAt_unread E.h7 E.x5 _ _).trans (congrArg E.x5 (funext fun b => Fin.ext ?_))
      match b with
      | ⟨0, _⟩ => exact (ValueKit.rect_emb_unit_val _ _ _ _ _).trans (Nat.zero_add _)
      | ⟨1, _⟩ => exact (ValueKit.rect_emb_unit_val _ _ _ _ _).trans (Nat.zero_add _)
      | ⟨2, _⟩ => exact (ValueKit.rect_emb_unit_val _ _ _ _ _).trans (Nat.zero_add _)
  · rw [dif_neg h]
    refine (View.read_writes_cons_unit_of_mem E.arg9.view E.arg9.view.junk Gen.inb_S144x2048_S16x2048_128_0 _ _
      (ix2 a k) (ix2 ⟨a.val - 128, by omega⟩ k) (off' := ![128, 0]) rfl ?_).trans (ones_at _ k)
    intro b
    match b with
    | ⟨0, _⟩ => show a.val = 128 + (a.val - 128); omega
    | ⟨1, _⟩ => exact (Nat.zero_add _).symm

end Cert.KernelIdeal.Model

end
-- ==== Proof.Sums.lean ====
/- The column maxima and the weighted sums of a unit at an element. -/
module

public import proofs.«01_k».proof.Proof.Scratch

@[expose] public section

set_option maxRecDepth 16384

noncomputable section

namespace Cert.KernelIdeal.Model

open Idealize.ShloMosaic Idealize.ShloMosaic.TcCoe Idealize.SL.Sem
open Cert.KernelIdeal Cert.KernelIdeal.Gen

variable (E : Env Ideal)

/-! ## The column maxima -/

theorem negInf_eq : Ideal.ofBits FTy.f32 0xFF800000#32 = (⊥ : EReal) := by
  simp [Ideal.ofBits, Ideal.ieee]

theorem tileMax_at (i p n : ℕ) (r : Fin 8) (c : Fin 256) :
    tileMax E i p n (ix2 r c) = Finset.univ.sup fun x : Fin 16 => (tile E i p n (ix2 ⟨x.val * 8 + r.val, by omega⟩ c) : EReal) := by
  pointwise [tileMax]
  rw [negInf_eq]
  rfl

theorem maxUpTo_succ_at (i p N : ℕ) (r : Fin 8) (c : Fin 256) :
    maxUpTo E i p (N + 1) (ix2 r c) = max (maxUpTo E i p N (ix2 r c) : EReal) (tileMax E i p (N + 1) (ix2 r c)) := rfl

theorem tile_le_maxUpTo (i p N n : ℕ) (hn : n ≤ N) (x : Fin 16) (r : Fin 8) (c : Fin 256) :
    (tile E i p n (ix2 ⟨x.val * 8 + r.val, by omega⟩ c) : EReal) ≤ maxUpTo E i p N (ix2 r c) := by
  have h0 : ∀ n, (tile E i p n (ix2 ⟨x.val * 8 + r.val, by omega⟩ c) : EReal) ≤ tileMax E i p n (ix2 r c) := fun n => by
    rw [tileMax_at]
    exact Finset.le_sup (f := fun x : Fin 16 => (tile E i p n (ix2 ⟨x.val * 8 + r.val, by omega⟩ c) : EReal)) (Finset.mem_univ x)
  induction N with
  | zero => obtain rfl : n = 0 := by omega
            exact h0 0
  | succ N ih =>
    rw [maxUpTo_succ_at]
    by_cases h : n = N + 1
    · subst h; exact le_max_of_le_right (h0 _)
    · exact le_max_of_le_left (ih (by omega) h0)

theorem maxUpTo_le (i p N : ℕ) (c : Fin 256) (S : EReal) (h : ∀ n ≤ N, ∀ r : Fin 128, (tile E i p n (ix2 r c) : EReal) ≤ S) (r : Fin 8) :
    (maxUpTo E i p N (ix2 r c) : EReal) ≤ S := by
  have h0 : ∀ n ≤ N, (tileMax E i p n (ix2 r c) : EReal) ≤ S := fun n hn => by
    rw [tileMax_at]
    exact Finset.sup_le fun x _ => h n hn _
  induction N with
  | zero => exact h0 0 le_rfl
  | succ N ih =>
    rw [maxUpTo_succ_at]
    exact max_le (ih (fun n hn => h n (by omega)) (fun n hn => h0 n (by omega))) (h0 _ le_rfl)

/-- A unit's column maximum is the largest of its query's scores over all keys. -/
theorem colMax_at (i p : ℕ) (hi : i < 16) (hp : p < 4) (c : Fin 256) :
    colMax E i p (ix2 0 c) = Finset.univ.sup fun k : Fin 2048 =>
      visible E ⟨128 * i + c.val % 128, by omega⟩ (Fin.ofNat 8 (2 * p + c.val / 128)) k := by
  have hlo : lo i = i - 8 := rfl
  have hfold : colMax E i p (ix2 0 c) = Finset.univ.sup fun r : Fin 8 => (maxUpTo E i p (i - lo i) (ix2 r c) : EReal) := by
    pointwise [colMax]
    rw [negInf_eq]
    rfl
  rw [hfold]
  apply le_antisymm
  · refine Finset.sup_le fun r _ => maxUpTo_le E i p _ c _ (fun n hn r' => ?_) r
    rw [tile_at E i p n hi hp (by omega)]
    exact Finset.le_sup (f := fun k : Fin 2048 => visible E _ _ k) (Finset.mem_univ _)
  · refine Finset.sup_le fun k _ => ?_
    by_cases hv : k.val ≤ 128 * i + c.val % 128 ∧ 128 * i + c.val % 128 < k.val + 1000
    · have hn : lo i + (k.val / 128 - lo i) = k.val / 128 := by omega
      have ht := tile_at E i p (k.val / 128 - lo i) hi hp (by omega) ⟨k.val % 128 / 8 * 8 + k.val % 8, by omega⟩ c
      have hk : (⟨128 * (lo i + (k.val / 128 - lo i)) + (k.val % 128 / 8 * 8 + k.val % 8), by omega⟩ : Fin 2048) = k :=
        Fin.ext (by show 128 * (lo i + (k.val / 128 - lo i)) + (k.val % 128 / 8 * 8 + k.val % 8) = k.val; omega)
      simp only [hk] at ht
      rw [← ht]
      exact (tile_le_maxUpTo E i p (i - lo i) _ (by omega) ⟨k.val % 128 / 8, by omega⟩ ⟨k.val % 8, by omega⟩ c).trans
        (Finset.le_sup (f := fun r : Fin 8 => (maxUpTo E i p (i - lo i) (ix2 r c) : EReal)) (Finset.mem_univ _))
    · have : visible E ⟨128 * i + c.val % 128, by omega⟩ (Fin.ofNat 8 (2 * p + c.val / 128)) k = ⊥ := by
        unfold visible; exact if_neg hv
      rw [this]; exact bot_le

/-! ## The weighted sums -/

theorem pairMM_at (A : FVec Ideal S144x256 .bf16) (T : FVec Ideal S1x256x256 .f32) (m : FVec Ideal S1x256 .f32) (a : Fin 144) (c : Fin 256) :
    matmul dot_S144x256_S256x256_S144x256_1_0_0_1_n_n none A
      (truncf .bf16 (exp2 (subf (shapeCast S256x256 T Gen.shapeCasts_S1x256x256_S256x256) (broadcastTo S256x256 m Gen.broadcasts_S1x256_S256x256))) Gen.bitsLt_bf16_f32)
      (constant S144x256 .f32 0x00000000#32) (ix2 a c)
      = ∑ y : Fin 256, (A (ix2 a y) * Ideal.exp2 ((T (ix3 0 y c) : EReal) - m (ix2 0 c)) : EReal) := by
  pointwise
  rfl

theorem singleMM_at (A : FVec Ideal S144x128 .bf16) (T : FVec Ideal S1x128x256 .f32) (m : FVec Ideal S1x256 .f32) (a : Fin 144) (c : Fin 256) :
    matmul dot_S144x128_S128x256_S144x256_1_0_0_1_n_n none A
      (truncf .bf16 (exp2 (subf (shapeCast S128x256 T Gen.shapeCasts_S1x128x256_S128x256) (broadcastTo S128x256 m Gen.broadcasts_S1x256_S128x256))) Gen.bitsLt_bf16_f32)
      (constant S144x256 .f32 0x00000000#32) (ix2 a c)
      = ∑ y : Fin 128, (A (ix2 a y) * Ideal.exp2 ((T (ix3 0 y c) : EReal) - m (ix2 0 c)) : EReal) := by
  pointwise
  rfl

/-- The weight of key `k` for a column of maximum `M`, times value row `a` at it. -/
def summand (a : Fin 144) (q : Fin 2048) (h : Fin 8) (M : EReal) (k : ℕ) : EReal :=
  valueAt E a (Fin.ofNat 2048 k) * Ideal.exp2 (visible E q h (Fin.ofNat 2048 k) - M)

section Unit

variable (u : ℕ) (hu : u < 64) (c : Fin 256) (m : FVec Ideal S1x256 .f32) (a : Fin 144)

/-- A column's summand, key by key. -/
def colSummand (k : ℕ) : EReal :=
  summand E a ⟨128 * (u / 4) + c.val % 128, by omega⟩ (Fin.ofNat 8 (2 * (u % 4) + c.val / 128)) (m (ix2 0 c)) k

/-- The scratch's summand at row `y` of tile `n` is the key's. -/
theorem summand_at (n : ℕ) (hn : lo (u / 4) + n ≤ u / 4) (y : Fin 128) (v : S144x2048.Idx) (t : S2x1152x256.Idx)
    (hv : v = ix2 a ⟨128 * (lo (u / 4) + n) + y.val, by omega⟩)
    (ht : t = ix3 (Fin.ofNat 2 u) ⟨128 * n + y.val, by unfold lo at hn; omega⟩ c) :
    atV E v * Ideal.exp2 (atT E (allStores E (bif Nat.beq u 63 then 64 else u + 2)) t - m (ix2 0 c))
      = colSummand E u hu c m a (128 * (lo (u / 4) + n) + y.val) := by
  have hk : Fin.ofNat 2048 (128 * (lo (u / 4) + n) + y.val) = ⟨128 * (lo (u / 4) + n) + y.val, by omega⟩ :=
    Fin.ext (Nat.mod_eq_of_lt (by omega))
  rw [hv, ht, atV_eq, scratch_at E u n hu hn, tile_at E _ _ n (by omega) (by omega) hn]
  unfold colSummand summand
  rw [hk]

theorem single_at (n : ℕ) (hn : lo (u / 4) + n ≤ u / 4) :
    single E (allStores E (bif Nat.beq u 63 then 64 else u + 2)) m (Fin.ofNat 2 u) (u / 4) n (ix2 a c)
      = ∑ y ∈ Finset.range 128, colSummand E u hu c m a (128 * (lo (u / 4) + n) + y) := by
  refine (singleMM_at _ _ m a c).trans ?_
  rw [Finset.sum_range]
  refine Finset.sum_congr rfl fun y _ => summand_at E u hu c m a n hn y _ _ (funext fun b => Fin.ext ?_) (funext fun b => Fin.ext ?_)
  · have e : (Fin.ofNat 16 (lo (u / 4) + n)).val = lo (u / 4) + n := Nat.mod_eq_of_lt (by omega)
    match b with
    | ⟨0, _⟩ => exact (ValueKit.rect_emb_unit_val _ _ _ _ _).trans (Nat.zero_add _)
    | ⟨1, _⟩ => exact (ValueKit.rect_emb_unit_val _ _ _ _ _).trans (congrArg (fun z => 128 * z + y.val) e)
  · have e : (Fin.ofNat 9 n).val = n := Nat.mod_eq_of_lt (by unfold lo at hn; omega)
    match b with
    | ⟨0, _⟩ => exact ValueKit.rect_emb_unit_val _ _ _ _ _
    | ⟨1, _⟩ => exact (ValueKit.rect_emb_unit_val _ _ _ _ _).trans (congrArg (fun z => 128 * z + y.val) e)
    | ⟨2, _⟩ => exact (ValueKit.rect_emb_unit_val _ _ _ _ _).trans (Nat.zero_add _)

theorem pair_at (k : ℕ) (hn : lo (u / 4) + (2 * k + 1) ≤ u / 4) :
    pair E (allStores E (bif Nat.beq u 63 then 64 else u + 2)) m (Fin.ofNat 2 u) (u / 4) k (ix2 a c)
      = ∑ y ∈ Finset.range 256, colSummand E u hu c m a (128 * (lo (u / 4) + 2 * k) + y) := by
  refine (pairMM_at _ _ m a c).trans ?_
  rw [Finset.sum_range]
  refine Finset.sum_congr rfl fun y _ => ?_
  have hy : 128 * (lo (u / 4) + 2 * k) + y.val = 128 * (lo (u / 4) + (2 * k + y.val / 128)) + y.val % 128 := by omega
  rw [hy]
  refine summand_at E u hu c m a (2 * k + y.val / 128) (by omega) ⟨y.val % 128, by omega⟩ _ _ (funext fun b => Fin.ext ?_) (funext fun b => Fin.ext ?_)
  · have e : 128 * (Fin.ofNat 15 (lo (u / 4) + 2 * k)).val + y.val = 128 * (lo (u / 4) + (2 * k + y.val / 128)) + y.val % 128 := by
      show 128 * ((lo (u / 4) + 2 * k) % 15) + y.val = _
      omega
    match b with
    | ⟨0, _⟩ => exact (ValueKit.rect_emb_unit_val _ _ _ _ _).trans (Nat.zero_add _)
    | ⟨1, _⟩ => exact (ValueKit.rect_emb_unit_val _ _ _ _ _).trans e
  · have e : 128 * (Fin.ofNat 8 (2 * k)).val + y.val = 128 * (2 * k + y.val / 128) + y.val % 128 := by
      show 128 * ((2 * k) % 8) + y.val = _
      unfold lo at hn
      omega
    match b with
    | ⟨0, _⟩ => exact ValueKit.rect_emb_unit_val _ _ _ _ _
    | ⟨1, _⟩ => exact (ValueKit.rect_emb_unit_val _ _ _ _ _).trans e
    | ⟨2, _⟩ => exact (ValueKit.rect_emb_unit_val _ _ _ _ _).trans (Nat.zero_add _)

theorem pairs_at (k : ℕ) (hn : lo (u / 4) + (2 * k + 1) ≤ u / 4) :
    pairs E (allStores E (bif Nat.beq u 63 then 64 else u + 2)) m (Fin.ofNat 2 u) (u / 4) k (ix2 a c)
      = ∑ y ∈ Finset.range (256 * (k + 1)), colSummand E u hu c m a (128 * lo (u / 4) + y) := by
  induction k with
  | zero => exact (pair_at E u hu c m a 0 hn).trans rfl
  | succ k ih =>
    rw [show 256 * (k + 1 + 1) = 256 * (k + 1) + 256 by ring, Finset.sum_range_add, ← ih (by omega)]
    refine congrArg₂ (fun x y : EReal => x + y) rfl ((pair_at E u hu c m a (k + 1) hn).trans (Finset.sum_congr rfl fun y _ => ?_))
    congr 1
    ring

/-- The sum over a unit's tiles, key by key. -/
theorem total_at :
    total E (allStores E (bif Nat.beq u 63 then 64 else u + 2)) m (Fin.ofNat 2 u) (u / 4) (u / 4 - lo (u / 4)) (ix2 a c)
      = ∑ y ∈ Finset.range (128 * (u / 4 - lo (u / 4) + 1)), colSummand E u hu c m a (128 * lo (u / 4) + y) := by
  have hlo : lo (u / 4) ≤ u / 4 := Nat.sub_le _ _
  obtain ⟨n, hn⟩ : ∃ n, n = u / 4 - lo (u / 4) := ⟨_, rfl⟩
  rw [← hn]
  unfold total
  by_cases h0 : n = 0
  · rw [h0]
    exact (single_at E u hu c m a 0 (by omega)).trans rfl
  have b0 : Nat.beq n 0 = false := Bool.eq_false_iff.mpr fun h => h0 (Nat.eq_of_beq_eq_true h)
  rw [b0]
  by_cases h1 : n % 2 = 0
  · rw [h1, show 128 * (n + 1) = 256 * (n / 2 - 1 + 1) + 128 by omega, Finset.sum_range_add, ← pairs_at E u hu c m a (n / 2 - 1) (by omega)]
    refine congrArg₂ (fun x y : EReal => x + y) rfl ((single_at E u hu c m a n (by omega)).trans (Finset.sum_congr rfl fun y _ => ?_))
    congr 1
    omega
  · have b1 : Nat.beq (n % 2) 0 = false := Bool.eq_false_iff.mpr fun h => h1 (Nat.eq_of_beq_eq_true h)
    rw [b1, show 128 * (n + 1) = 256 * (n / 2 + 1) by omega]
    exact pairs_at E u hu c m a (n / 2) (by omega)

/-- … and, the hidden keys weighing nothing, over all keys. -/
theorem total_eq :
    total E (allStores E (bif Nat.beq u 63 then 64 else u + 2)) m (Fin.ofNat 2 u) (u / 4) (u / 4 - lo (u / 4)) (ix2 a c)
      = ∑ k : Fin 2048, valueAt E a k * Ideal.exp2 (visible E ⟨128 * (u / 4) + c.val % 128, by omega⟩ (Fin.ofNat 8 (2 * (u % 4) + c.val / 128)) k - m (ix2 0 c)) := by
  have hlo : lo (u / 4) = u / 4 - 8 := rfl
  have hz : ∀ k < 2048, (k < 128 * lo (u / 4) ∨ 128 * (u / 4 + 1) ≤ k) → colSummand E u hu c m a k = 0 := fun k hk hout => by
    unfold colSummand summand visible
    have hk' : (Fin.ofNat 2048 k).val = k := Nat.mod_eq_of_lt hk
    rw [if_neg (by rw [hk']; show ¬(k ≤ 128 * (u / 4) + c.val % 128 ∧ 128 * (u / 4) + c.val % 128 < k + 1000); omega), EReal.bot_sub, Ideal.exp2_bot, mul_zero]
  have hsum : (∑ k : Fin 2048, valueAt E a k * Ideal.exp2 (visible E ⟨128 * (u / 4) + c.val % 128, by omega⟩ (Fin.ofNat 8 (2 * (u % 4) + c.val / 128)) k - m (ix2 0 c)))
      = ∑ k ∈ Finset.range 2048, colSummand E u hu c m a k := by
    rw [Finset.sum_range]
    refine Finset.sum_congr rfl fun k _ => ?_
    unfold colSummand summand
    rw [show Fin.ofNat 2048 k.val = k from Fin.ext (Nat.mod_eq_of_lt k.isLt)]
  rw [hsum, total_at E u hu c m a, show (2048 : ℕ) = 128 * lo (u / 4) + (128 * (u / 4 - lo (u / 4) + 1) + (2048 - 128 * (u / 4 + 1))) by omega,
    Finset.sum_range_add, Finset.sum_range_add]
  have e1 : ∑ k ∈ Finset.range (128 * lo (u / 4)), colSummand E u hu c m a k = 0 :=
    Finset.sum_eq_zero fun k hk => hz k (by have := Finset.mem_range.mp hk; omega) (Or.inl (Finset.mem_range.mp hk))
  have e2 : ∑ k ∈ Finset.range (2048 - 128 * (u / 4 + 1)), colSummand E u hu c m a (128 * lo (u / 4) + (128 * (u / 4 - lo (u / 4) + 1) + k)) = 0 :=
    Finset.sum_eq_zero fun k hk => by have := Finset.mem_range.mp hk; exact hz _ (by omega) (Or.inr (by omega))
  rw [e1, e2, zero_add, add_zero]

end Unit

/-! ## What a unit stores -/

/-- The attention of query `q` under head `h`, at value column `d`, as the kernel computes it. -/
def attend (q : Fin 2048) (h : Fin 8) (d : Fin 128) : EReal :=
  (∑ k : Fin 2048, E.x5 (ix3 0 k d) * Ideal.exp2 (visible E q h k - Finset.univ.sup fun k => visible E q h k))
    * Ideal.div (E.x2 (ix1 (E.i 1))) (∑ k : Fin 2048, Ideal.exp2 (visible E q h k - Finset.univ.sup fun k => visible E q h k))

theorem normed_at (t : FVec Ideal S144x256 .f32) (d : Fin 128) (c : Fin 256) :
    normed E t (ix2 d c) = t (ix2 ⟨d.val, by omega⟩ c) * Ideal.div (E.x2 (ix1 (E.i 1))) (t (ix2 128 c)) := by
  unfold normed
  rw [readAt_ld]
  pointwise
  have h2 : k0_off2 E.i 0 = (E.i 1).val := by rw [k0_off2_eq]; rfl
  simp only [h2]
  rfl

/-- What a unit computes at value column `d` of its column `c`. -/
theorem unitOut_at (u : ℕ) (hu : u < 64) (d : Fin 128) (c : Fin 256) :
    unitOut E u (ix2 d c) = attend E ⟨128 * (u / 4) + c.val % 128, by omega⟩ (Fin.ofNat 8 (2 * (u % 4) + c.val / 128)) d := by
  unfold unitOut
  rw [normed_at, total_eq E u hu, total_eq E u hu, colMax_at E _ _ (by omega) (by omega)]
  unfold attend
  congr 1
  · refine Finset.sum_congr rfl fun k _ => ?_
    unfold valueAt
    rw [dif_pos (show d.val < 128 from d.isLt)]
  · congr 1
    refine Finset.sum_congr rfl fun k _ => ?_
    unfold valueAt
    rw [dif_neg (show ¬(128 : Fin 144).val < 128 by decide), one_mul]

theorem left_at (o : FVec Ideal S128x256 .f32) (q d : Fin 128) : left o (ix3 0 q d) = o (ix2 d ⟨q.val, by omega⟩) := by
  pointwise [left]

theorem right_at (o : FVec Ideal S128x256 .f32) (q d : Fin 128) : right o (ix3 0 q d) = o (ix2 d ⟨128 + q.val, by omega⟩) := by
  pointwise [right]

/-- The whole output block. -/
def block : S1x2048x1024.Idx → EReal := fun y => attend E (y 1) ⟨(y 2).val / 128, Nat.div_lt_of_lt_mul (y 2).isLt⟩ ⟨(y 2).val % 128, Nat.mod_lt _ (by norm_num)⟩

theorem head_div (p : ℕ) (hp : p < 4) (n : ℕ) (hn : n < 2) (d : ℕ) (hd : d < 128) :
    (128 * (Fin.ofNat 8 (2 * p + n)).val + d) / 128 = (Fin.ofNat 8 (2 * p + n)).val
      ∧ (128 * (Fin.ofNat 8 (2 * p + n)).val + d) % 128 = d := by
  constructor <;> omega

/-- An element of the output block at a position inside the block a unit stores. -/
theorem block_emb (i : Fin 16) (h : Fin 8) (q d : Fin 128) :
    block E ((Rect.unit (s := S1x2048x1024) ![0, 128 * i.val, 128 * h.val] S1x128x128.size (inbQ i h)).emb (ix3 0 q d))
      = attend E ⟨128 * i.val + q.val, by omega⟩ h d := by
  have e1 : ((Rect.unit (s := S1x2048x1024) ![0, 128 * i.val, 128 * h.val] S1x128x128.size (inbQ i h)).emb (ix3 0 q d) 1).val = 128 * i.val + q.val :=
    ValueKit.rect_emb_unit_val _ _ _ _ _
  have e2 : ((Rect.unit (s := S1x2048x1024) ![0, 128 * i.val, 128 * h.val] S1x128x128.size (inbQ i h)).emb (ix3 0 q d) 2).val = 128 * h.val + d.val :=
    ValueKit.rect_emb_unit_val _ _ _ _ _
  unfold block
  congr 1
  · exact Fin.ext e1
  · exact Fin.ext (by simp only [e2]; omega)
  · exact Fin.ext (by simp only [e2]; omega)

theorem idx_eta (x : S1x128x128.Idx) : ∃ q d : Fin 128, x = ix3 0 q d :=
  ⟨x 1, x 2, funext fun a => match a with
    | ⟨0, _⟩ => Fin.ext (Nat.lt_one_iff.mp (x 0).isLt)
    | ⟨1, _⟩ => rfl
    | ⟨2, _⟩ => rfl⟩

/-- Both stores of a unit are blocks of the one output block. -/
theorem left_block (u : ℕ) (hu : u < 64) (x : S1x128x128.Idx) :
    left (unitOut E u) x = block E ((Rect.unit (s := S1x2048x1024) ![0, 128 * (Fin.ofNat 16 (u / 4)).val, 128 * (Fin.ofNat 8 (2 * (u % 4))).val] S1x128x128.size (inbQ _ _)).emb x) := by
  obtain ⟨q, d, rfl⟩ := idx_eta x
  rw [block_emb, left_at, unitOut_at E u hu]
  have e : (Fin.ofNat 16 (u / 4)).val = u / 4 := Nat.mod_eq_of_lt (by omega)
  congr 1
  · exact Fin.ext (by simp only [e]; omega)
  · simp only [show q.val / 128 = 0 by omega, Nat.add_zero]

theorem right_block (u : ℕ) (hu : u < 64) (x : S1x128x128.Idx) :
    right (unitOut E u) x = block E ((Rect.unit (s := S1x2048x1024) ![0, 128 * (Fin.ofNat 16 (u / 4)).val, 128 * (Fin.ofNat 8 (2 * (u % 4) + 1)).val] S1x128x128.size (inbQ _ _)).emb x) := by
  obtain ⟨q, d, rfl⟩ := idx_eta x
  rw [block_emb, right_at, unitOut_at E u hu]
  have e : (Fin.ofNat 16 (u / 4)).val = u / 4 := Nat.mod_eq_of_lt (by omega)
  congr 1
  · exact Fin.ext (by simp only [e]; omega)
  · simp only [show (128 + q.val) / 128 = 1 by omega]

/-- Every store into the output block is a block of it. -/
theorem outs_pieces (u : ℕ) (hu : u ≤ 64) : ∀ pc ∈ outs E u, ∀ x, pc.2 x = block E (pc.1.emb x) := by
  induction u with
  | zero => intro pc h; exact absurd h List.not_mem_nil
  | succ u ih =>
    intro pc h
    rcases List.mem_cons.mp h with rfl | h
    · exact right_block E u (by omega)
    rcases List.mem_cons.mp h with rfl | h
    · exact left_block E u (by omega)
    · exact ih (by omega) pc h

end Cert.KernelIdeal.Model

end
-- ==== Proof.Block.lean ====
/- What the body leaves in its output block at a grid point: the attention of every query of the block. -/
module

public import proofs.«01_k».proof.Proof.Run
public import proofs.«01_k».proof.Proof.Sums
public import Idealize.ShloMosaic.Lib.Pipeline.CanonAppend

@[expose] public section

set_option maxRecDepth 16384

noncomputable section

namespace Cert.KernelIdeal.Model

open Idealize.ShloMosaic Idealize.ShloMosaic.TcCoe Idealize.SL.Sem
open Cert.KernelIdeal Cert.KernelIdeal.Gen

/-- The body's output block is `block`: the attention of every query, head and value column. -/
theorem out_eq (c : Dev nD) (i : grid0.Coords) (arg2 : Memref sig .tc .smem S32 .f32) (harg2 : arg2.IsWhole) (arg3 : Memref sig .tc .smem S4 .f32) (harg3 : arg3.IsWhole) (arg4 : Memref sig .tc .smem S4 .f32) (harg4 : arg4.IsWhole) (arg5 : Memref sig .tc .vmem S1x2048x1024 .fp8e4m3) (harg5 : arg5.IsWhole) (arg6 : Memref sig .tc .vmem S1x2048x128 .fp8e4m3) (harg6 : arg6.IsWhole) (arg7 : Memref sig .tc .vmem S1x2048x128 .fp8e4m3) (harg7 : arg7.IsWhole) (arg8 : Memref sig .tc .vmem S1x2048x1024 .bf16) (harg8 : arg8.IsWhole) (arg9 : Memref sig .tc .vmem S144x2048 .bf16) (harg9 : arg9.IsWhole) (arg10 : Memref sig .tc .vmem S2x1152x256 .f32) (harg10 : arg10.IsWhole)
    (x0 : Vec Ideal S32 .f32) (x1 : Vec Ideal S4 .f32) (x2 : Vec Ideal S4 .f32) (x3 : Vec Ideal S1x2048x1024 .fp8e4m3) (x4 : Vec Ideal S1x2048x128 .fp8e4m3) (x5 : Vec Ideal S1x2048x128 .fp8e4m3) :
    out0_A_6 c i arg2 harg2 arg3 harg3 arg4 harg4 arg5 harg5 arg6 harg6 arg7 harg7 arg8 harg8 arg9 harg9 arg10 harg10 x0 x1 x2 x3 x4 x5
      = block ⟨i, arg2, harg2, arg3, harg3, arg4, harg4, arg5, harg5, arg6, harg6, arg7, harg7, arg9, arg10, x0, x1, x2, x3, x4, x5⟩ := by
  have hcov := cover0_A_6 (F := Ideal) c i arg2 harg2 arg3 harg3 arg4 harg4 arg5 harg5 arg6 harg6 arg7 harg7 arg8 harg8 arg9 harg9 arg10 harg10 x0 x1 x2 x3 x4 x5
  have hrun := run_eq (F := Ideal) c i arg2 harg2 arg3 harg3 arg4 harg4 arg5 harg5 arg6 harg6 arg7 harg7 arg8 harg8 arg9 harg9 arg10 harg10 x0 x1 x2 x3 x4 x5
  unfold out0_A_6
  rw [hrun] at hcov ⊢
  rw [View.read_writes_eq_canon _ _ _ hcov]
  funext y
  have := View.canon_append_of_pieces (Val := Elt Ideal) (block ⟨i, arg2, harg2, arg3, harg3, arg4, harg4, arg5, harg5, arg6, harg6, arg7, harg7, arg9, arg10, x0, x1, x2, x3, x4, x5⟩) [] _
    (outs_pieces ⟨i, arg2, harg2, arg3, harg3, arg4, harg4, arg5, harg5, arg6, harg6, arg7, harg7, arg9, arg10, x0, x1, x2, x3, x4, x5⟩ 64 le_rfl) y (hcov y)
  rwa [List.append_nil] at this

end Cert.KernelIdeal.Model

end
-- ==== Proof.Softmax.lean ====
/- Softmax over the extended reals: the weighted mean written with powers of two and one division at the end is the one
   written with the exponential of the score less the logarithm of the total. -/
module

public import Idealize.ShloMosaic.PureOps.Ideal
public import Mathlib.Data.EReal.Operations
public import Mathlib.Data.EReal.Inv

@[expose] public section

noncomputable section

namespace Cert.Softmax

open Idealize.ShloMosaic

/-- Multiplication by a positive number distributes over a sum of two extended reals. -/
theorem add_mul_pos (x y : EReal) {c : ℝ} (hc : 0 < c) : (x + y) * (c : EReal) = x * c + y * c := by
  rw [mul_comm, mul_comm x, mul_comm y]
  exact EReal.left_distrib_of_nonneg_of_ne_top (by exact_mod_cast hc.le) (EReal.coe_ne_top c) x y

/-- Multiplication by a positive number distributes over a finite sum of extended reals. -/
theorem sum_mul_pos {ι : Type} (s : Finset ι) (f : ι → EReal) {c : ℝ} (hc : 0 < c) :
    (∑ i ∈ s, f i) * (c : EReal) = ∑ i ∈ s, f i * c := by
  classical
  induction s using Finset.induction_on with
  | empty => simp
  | insert a s ha ih => rw [Finset.sum_insert ha, Finset.sum_insert ha, add_mul_pos _ _ hc, ih]

/-- Multiplication by a positive number distributes over a difference of two extended reals. -/
theorem sub_mul_pos (x y : EReal) {c : ℝ} (hc : 0 < c) : (x - y) * (c : EReal) = x * c - y * c := by
  rw [sub_eq_add_neg, sub_eq_add_neg, add_mul_pos _ _ hc, EReal.neg_mul]

theorem log_two_inv_pos : 0 < (Real.log 2)⁻¹ := inv_pos.mpr (Real.log_pos (by norm_num))

/-- Two to the power of `x · log₂ e` is `e` to the power of `x`. -/
theorem exp2_mul (x : EReal) : Ideal.exp2 (x * ((Real.log 2)⁻¹ : ℝ)) = Ideal.exp x := by
  induction x with
  | bot => rw [EReal.bot_mul_coe_of_pos log_two_inv_pos]; rfl
  | top => rw [EReal.top_mul_coe_of_pos log_two_inv_pos]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    have : Real.log 2 ≠ 0 := (Real.log_pos (by norm_num)).ne'
    field_simp

/-- The largest of finitely many extended reals, all multiplied by a positive number. -/
theorem sup_mul_pos {ι : Type} (s : Finset ι) (f : ι → EReal) {c : ℝ} (hc : 0 < c) :
    s.sup (fun i => f i * (c : EReal)) = s.sup f * c := by
  classical
  induction s using Finset.induction_on with
  | empty => simp only [Finset.sup_empty]; rw [EReal.bot_mul_coe_of_pos hc]
  | insert a s ha ih =>
    rw [Finset.sup_insert, Finset.sup_insert, ih]
    have hm : Monotone fun x : EReal => x * (c : EReal) := fun x y h =>
      mul_le_mul_of_nonneg_right h (by exact_mod_cast hc.le)
    exact (hm.map_sup _ _).symm

/-- The two ways of writing one row of attention agree, whatever the extended reals in it. -/
theorem row_eq {n : ℕ} (a t v : Fin n → EReal) (vs : EReal)
    (ht : ∀ k, t k = a k * ((Real.log 2)⁻¹ : ℝ)) :
    (∑ k, v k * Ideal.exp2 (t k - Finset.univ.sup t)) * Ideal.div vs (∑ k, Ideal.exp2 (t k - Finset.univ.sup t))
      = (∑ k, Ideal.exp ((a k - Finset.univ.sup a) - Ideal.log (∑ j, Ideal.exp (a j - Finset.univ.sup a))) * v k) * vs := by
  have hsup : Finset.univ.sup t = Finset.univ.sup a * ((Real.log 2)⁻¹ : ℝ) := by
    rw [← sup_mul_pos _ _ log_two_inv_pos]; congr 1; funext k; exact ht k
  have he : ∀ k, Ideal.exp2 (t k - Finset.univ.sup t) = Ideal.exp (a k - Finset.univ.sup a) := fun k => by
    rw [hsup, ht k, ← sub_mul_pos _ _ log_two_inv_pos, exp2_mul]
  simp only [he]
  have hle : ∀ k, a k ≤ Finset.univ.sup a := fun k => Finset.le_sup (Finset.mem_univ k)
  generalize hm : Finset.univ.sup a = m at hle ⊢
  -- a row without a finite largest score has only zero weights, on both sides
  have hzero : (∀ k, a k - m = ⊥) →
      (∑ k, v k * Ideal.exp (a k - m)) * Ideal.div vs (∑ k, Ideal.exp (a k - m))
        = (∑ k, Ideal.exp ((a k - m) - Ideal.log (∑ j, Ideal.exp (a j - m))) * v k) * vs := fun h => by
    simp only [h, Ideal.exp_bot, mul_zero, Finset.sum_const_zero, zero_mul, EReal.bot_sub]
  induction m with
  | bot => exact hzero fun k => by rw [le_bot_iff.mp (hle k)]; rfl
  | top => exact hzero fun k => by induction a k <;> rfl
  | coe r =>
    -- every weight is a number, at least one of them is one
    have hex : ∃ k, a k = (r : EReal) := by
      have hne : (Finset.univ : Finset (Fin n)).Nonempty := by
        by_contra hne
        rw [Finset.not_nonempty_iff_eq_empty] at hne
        rw [hne, Finset.sup_empty] at hm
        exact EReal.coe_ne_bot r hm.symm
      obtain ⟨k, _, hk⟩ := Finset.exists_mem_eq_sup _ hne a
      exact ⟨k, hk ▸ hm⟩
    have hreal : ∀ k, ∃ w : ℝ, 0 ≤ w ∧ Ideal.exp (a k - r) = (w : EReal)
        ∧ ∀ l : ℝ, 0 < l → Ideal.exp ((a k - r) - Ideal.log (l : EReal)) = ((w * l⁻¹ : ℝ) : EReal) := fun k => by
      have hk := hle k
      induction hak : a k with
      | bot => exact ⟨0, le_rfl, by simp, fun l hl => by simp⟩
      | top => rw [hak] at hk; exact absurd (top_le_iff.mp hk) (EReal.coe_ne_top r)
      | coe x =>
        refine ⟨Real.exp (x - r), (Real.exp_pos _).le, by rw [← EReal.coe_sub]; rfl, fun l hl => ?_⟩
        have hlog : Ideal.log (l : EReal) = ((Real.log l : ℝ) : EReal) := by
          show (if l ≤ 0 then (⊥ : EReal) else (Real.log l : EReal)) = _
          rw [if_neg (not_le.mpr hl)]
        rw [hlog, ← EReal.coe_sub, ← EReal.coe_sub]
        show ((Real.exp _ : ℝ) : EReal) = _
        rw [Real.exp_sub, Real.exp_log hl, div_eq_mul_inv]
    choose w hw0 hw hwl using hreal
    have hl : ∑ k, Ideal.exp (a k - r) = ((∑ k, w k : ℝ) : EReal) := by
      simp only [hw]
      exact (map_sum (⟨⟨fun x : ℝ => (x : EReal), rfl⟩, EReal.coe_add⟩ : ℝ →+ EReal) _ _).symm
    have hpos : 0 < ∑ k, w k := by
      obtain ⟨k, hk⟩ := hex
      have h1 : w k = 1 := by
        have := hw k
        rw [hk, ← EReal.coe_sub, sub_self] at this
        have h2 : ((Real.exp 0 : ℝ) : EReal) = (w k : EReal) := this
        rw [Real.exp_zero] at h2
        exact_mod_cast h2.symm
      have := Finset.single_le_sum (fun j _ => hw0 j) (Finset.mem_univ k) (f := w)
      linarith
    have hdiv : Ideal.div vs (((∑ k, w k : ℝ)) : EReal) = vs * (((∑ k, w k)⁻¹ : ℝ) : EReal) := by
      rw [Ideal.div_coe hpos.ne', one_div]
    rw [hl, hdiv]
    simp only [hw, hwl _ _ hpos]
    rw [mul_comm vs, ← mul_assoc, sum_mul_pos _ _ (inv_pos.mpr hpos)]
    congr 1
    refine Finset.sum_congr rfl fun k _ => ?_
    rw [EReal.coe_mul, mul_assoc, mul_comm]

end Cert.Softmax

end
-- ==== Proof.Reference.lean ====
/- The reference's host operations after its region: what they leave in the result, and its value at an index. -/
module

public import proofs.«01_k».proof.Proof.Gen.ReferenceIdeal.Frame
public import Idealize.ShloMosaic.Lib.Claim
public import Idealize.ShloMosaic.Lib.Pipeline.ValueKit

@[expose] public section

set_option maxRecDepth 16384

noncomputable section

namespace Cert.ReferenceIdeal.Result

open Idealize.ShloMosaic Idealize.SL.Sem Idealize.ShloMosaic.TcCoe
open Cert.ReferenceIdeal Cert.ReferenceIdeal.Gen

/-! ## The result as a composition of tensor operations -/

/-- The factor of every head's scores. -/
def factor (qs : FVec Ideal S32 .f32) (ks : FVec Ideal S4 .f32) : FVec Ideal S4x8 .f32 :=
  mulf (mulf (shapeCast S4x8 qs shapeCasts_S32_S4x8)
      (broadcastInDim S4x8 ![0, 1] bcast_S4x1_S4x8_0_1 (broadcastInDim S4x1 ![0] bcast_S4_S4x1_0 ks)))
    (broadcastInDim S4x8 ![] bcast_S_S4x8 (constant S_ .f32 0x3DB504F3#32))

/-- The scaled scores of every query against every key. -/
def scores (Q : FVec Ideal S8x2048x4096 .bf16) (K : FVec Ideal S8x2048x512 .bf16) (qs : FVec Ideal S32 .f32) (ks : FVec Ideal S4 .f32) :
    FVec Ideal S8x4x8x2048x2048 .f32 :=
  mulf (transpose S8x4x8x2048x2048 [0, 1, 4, 3, 2]
      (Host.dotGeneral dot_S8x2048x4x128_S8x2048x4x8x128_S8x4x2048x2048x8_3_4_1_13_02_02 none
        (shapeCast S8x2048x4x128 K shapeCasts_S8x2048x512_S8x2048x4x128)
        (shapeCast S8x2048x4x8x128 Q shapeCasts_S8x2048x4096_S8x2048x4x8x128))
      transposes_S8x4x2048x2048x8_S8x4x8x2048x2048_0_1_4_3_2)
    (broadcastInDim S8x4x8x2048x2048 ![0, 1, 2, 3, 4] bcast_S1x4x8x1x1_S8x4x8x2048x2048_0_1_2_3_4
      (broadcastInDim S1x4x8x1x1 ![1, 2] bcast_S4x8_S1x4x8x1x1_1_2 (factor qs ks)))

/-- Query positions, as a column. -/
def qpos : IVec S2048x1 32 := broadcastInDim S2048x1 ![0] bcast_S2048_S2048x1_0 (iotaInDim S2048 32 0)

/-- Key positions, as a row. -/
def kpos : IVec S1x2048 32 := broadcastInDim S1x2048 ![1] bcast_S2048_S1x2048_1 (iotaInDim S2048 32 0)

/-- Whether a key is in a query's window. -/
def inWindow : IVec S2048x2048 1 :=
  andi (cmpi .sle (broadcastInDim S2048x2048 ![0, 1] bcast_S1x2048_S2048x2048_0_1 kpos)
      (broadcastInDim S2048x2048 ![0, 1] bcast_S2048x1_S2048x2048_0_1 qpos))
    (cmpi .sgt (broadcastInDim S2048x2048 ![0, 1] bcast_S1x2048_S2048x2048_0_1 kpos)
      (broadcastInDim S2048x2048 ![0, 1] bcast_S2048x1_S2048x2048_0_1
        (subi qpos (broadcastInDim S2048x1 ![] bcast_S_S2048x1 (constantI S_ 32 1000#32)))))

/-- The scores with the keys out of the window at minus infinity. -/
def masked (s : FVec Ideal S8x4x8x2048x2048 .f32) : FVec Ideal S8x4x8x2048x2048 .f32 :=
  select (broadcastInDim S8x4x8x2048x2048 ![3, 4] bcast_S2048x2048_S8x4x8x2048x2048_3_4 inWindow) s
    (broadcastInDim S8x4x8x2048x2048 ![] bcast_S_S8x4x8x2048x2048 (constant S_ .f32 0xFF800000#32))

/-- A row value at every key. -/
def onRow (r : FVec Ideal S8x4x8x2048x1 .f32) : FVec Ideal S8x4x8x2048x2048 .f32 :=
  broadcastInDim S8x4x8x2048x2048 ![0, 1, 2, 3, 4] bcast_S8x4x8x2048x1_S8x4x8x2048x2048_0_1_2_3_4 r

/-- A row value with a unit key axis. -/
def keepDim (r : FVec Ideal S8x4x8x2048 .f32) : FVec Ideal S8x4x8x2048x1 .f32 :=
  broadcastInDim S8x4x8x2048x1 ![0, 1, 2, 3] bcast_S8x4x8x2048_S8x4x8x2048x1_0_1_2_3 r

/-- The row maxima. -/
def rowMax (s : FVec Ideal S8x4x8x2048x2048 .f32) : FVec Ideal S8x4x8x2048 .f32 :=
  Host.reduce FloatOps.maximumf s (constant S_ .f32 0xFF800000#32) reducesTo_S8x4x8x2048x2048_S8x4x8x2048_d4 h_S_

/-- The scores less a row value, where it is above minus infinity. -/
def lowered (s : FVec Ideal S8x4x8x2048x2048 .f32) (r : FVec Ideal S8x4x8x2048 .f32) : FVec Ideal S8x4x8x2048x2048 .f32 :=
  subf s (onRow (keepDim (maximumf
    (broadcastInDim S8x4x8x2048 ![] bcast_S_S8x4x8x2048 (constant S_ .f32 0xFF800000#32)) r)))

/-- The scores less their row maximum. -/
def shifted (s : FVec Ideal S8x4x8x2048x2048 .f32) : FVec Ideal S8x4x8x2048x2048 .f32 := lowered s (rowMax s)

/-- The logarithm of the softmax, from the shifted scores. -/
def logSoftmax (t : FVec Ideal S8x4x8x2048x2048 .f32) : FVec Ideal S8x4x8x2048x2048 .f32 :=
  subf t (onRow (Host.log (keepDim
    (Host.reduceAdd (Host.exp t) (constant S_ .f32 0x00000000#32) reducesTo_S8x4x8x2048x2048_S8x4x8x2048_d4 h_S_))))

/-- The weighted sums of the values, scaled, from the logarithms of the weights. -/
def output (l : FVec Ideal S8x4x8x2048x2048 .f32) (V : FVec Ideal S8x2048x512 .bf16) (vs : FVec Ideal S4 .f32) : FVec Ideal S8x2048x4x8x128 .f32 :=
  mulf (transpose S8x2048x4x8x128 [0, 4, 1, 3, 2]
      (Host.dotGeneral dot_S8x2048x4x128_S8x4x8x2048x2048_S8x4x128x8x2048_1_4_3_23_02_01 none
        (shapeCast S8x2048x4x128 V shapeCasts_S8x2048x512_S8x2048x4x128)
        (truncf .bf16 (Host.exp l) bitsLt_bf16_f32))
      transposes_S8x4x128x8x2048_S8x2048x4x8x128_0_4_1_3_2)
    (broadcastInDim S8x2048x4x8x128 ![0, 1, 2, 3, 4] bcast_S1x1x4x1x1_S8x2048x4x8x128_0_1_2_3_4
      (broadcastInDim S1x1x4x1x1 ![2] bcast_S4_S1x1x4x1x1_2 vs))

/-- The reference's result. -/
def REF (Q : FVec Ideal S8x2048x4096 .bf16) (K V : FVec Ideal S8x2048x512 .bf16) (qs : FVec Ideal S32 .f32) (ks vs : FVec Ideal S4 .f32) :
    FVec Ideal S8x2048x4096 .bf16 :=
  truncf .bf16 (shapeCast S8x2048x4096 (output (logSoftmax (shifted (masked (scores Q K qs ks)))) V vs) shapeCasts_S8x2048x4x8x128_S8x2048x4096)
    bitsLt_bf16_f32

set_option maxHeartbeats 1600000 in
/-- The host operations after the region leave `REF` of the region's arrays and the scales in the result. -/
theorem tail_eq (σ : Valuation τ sig (Elt Ideal)) :
    StableHlo.after [hostOps1, hostOps1_1, hostOps1_2, hostOps1_3].flatten σ (Proc.devRef .tc main_v38)
      = REF (σ (Proc.devRef .tc main_v0_0)) (σ (Proc.devRef .tc main_v0_1)) (σ (Proc.devRef .tc main_v0_2))
          (σ (Proc.devRef .tc main_arg3)) (σ (Proc.devRef .tc main_arg4)) (σ (Proc.devRef .tc main_arg5)) := by
  simp only [hostOps1, hostOps1_1, hostOps1_2, hostOps1_3, List.flatten_cons, List.flatten_nil, List.append_nil, List.cons_append,
        List.nil_append]
  after_results
  simp -implicitDefEqProofs only [StableHlo.TRef.toBuf, StableHlo.TRef.ofBuf, cast_cast, cast_eq]
  rfl

/-! ## Its value at an index -/

section

variable (Q : FVec Ideal S8x2048x4096 .bf16) (K V : FVec Ideal S8x2048x512 .bf16) (qs : FVec Ideal S32 .f32) (ks vs : FVec Ideal S4 .f32)

theorem factor_at (g : Fin 4) (h : Fin 8) :
    (factor qs ks (ix2 g h) : EReal)
      = (qs (ix1 ⟨g.val * 8 + h.val, by omega⟩) * ks (ix1 g)) * FloatOps.ofBits (F := Ideal) .f32 0x3DB504F3#32 := by
  pointwise [factor]
  trace_state
  done

theorem scores_at (b : Fin 8) (g : Fin 4) (h : Fin 8) (q k : Fin 2048) :
    (scores Q K qs ks (ix5 b g h q k) : EReal)
      = (∑ x : Fin 128, (K (ix3 b k ⟨g.val * 128 + x.val, by omega⟩) * Q (ix3 b q ⟨(g.val * 8 + h.val) * 128 + x.val, by omega⟩) : EReal))
        * factor qs ks (ix2 g h) := by
  pointwise [scores]
  exact congrArg (· * _) (Finset.sum_congr rfl fun x _ => congrArg (_ * ·) (congrArg (fun y => Q (ix3 b q y)) (Fin.ext (by dsimp only; omega))))

theorem toInt_ofNat_of_lt (n : ℕ) (h : n < 4096) : (BitVec.ofNat 32 n).toInt = n := by
  rw [BitVec.toInt_eq_toNat_cond, BitVec.toNat_ofNat]
  omega

theorem negInf_eq : Ideal.ofBits FTy.f32 0xFF800000#32 = (⊥ : EReal) := by
  simp [Ideal.ofBits, Ideal.ieee]

theorem inWindow_at (q k : Fin 2048) : inWindow (ix2 q k) = if k.val ≤ q.val ∧ q.val < k.val + 1000 then 1#1 else 0#1 := by
  pointwise [inWindow, kpos, qpos]
  have hk := toInt_ofNat_of_lt k.val (by omega)
  have hq := toInt_ofNat_of_lt q.val (by omega)
  have hs : (IntOp.subi (BitVec.ofNat 32 q.val) 1000#32).toInt = (q.val : ℤ) - 1000 := by
    rw [show IntOp.subi (BitVec.ofNat 32 q.val) 1000#32 = BitVec.ofNat 32 q.val - 1000#32 from rfl, BitVec.toInt_sub, hq,
      show (1000#32).toInt = 1000 from rfl, Int.bmod]
    omega
  simp only [IntOp.cmpi, IntOp.andi, BitVec.sle, BitVec.slt, hk, hq, hs]
  by_cases h1 : k.val ≤ q.val <;> by_cases h2 : q.val < k.val + 1000
  all_goals
    have e1 : decide ((k.val : ℤ) ≤ q.val) = decide (k.val ≤ q.val) := decide_eq_decide.2 (by omega)
    have e2 : decide ((q.val : ℤ) - 1000 < k.val) = decide (q.val < k.val + 1000) := decide_eq_decide.2 (by omega)
    simp [e1, e2, h1, h2]

theorem masked_at (s : FVec Ideal S8x4x8x2048x2048 .f32) (b : Fin 8) (g : Fin 4) (h : Fin 8) (q k : Fin 2048) :
    (masked s (ix5 b g h q k) : EReal) = if k.val ≤ q.val ∧ q.val < k.val + 1000 then s (ix5 b g h q k) else ⊥ := by
  pointwise [masked, inWindow_at]
  rw [negInf_eq]
  by_cases h : k.val ≤ q.val ∧ q.val < k.val + 1000
  · rw [if_pos h, if_pos h]; rfl
  · rw [if_neg h, if_neg h]; rfl

theorem rowMax_at (s : FVec Ideal S8x4x8x2048x2048 .f32) (b : Fin 8) (g : Fin 4) (h : Fin 8) (q : Fin 2048) :
    (rowMax s (ix4 b g h q) : EReal)
      = (Finset.univ : Finset (Fin 2048)).fold max (Ideal.ofBits FTy.f32 0xFF800000#32) (fun x : Fin 2048 => (s (ix5 b g h q x) : EReal)) := by
  pointwise [rowMax]

theorem lowered_at (s : FVec Ideal S8x4x8x2048x2048 .f32) (r : FVec Ideal S8x4x8x2048 .f32) (b : Fin 8) (g : Fin 4) (h : Fin 8) (q k : Fin 2048) :
    (lowered s r (ix5 b g h q k) : EReal) = s (ix5 b g h q k) - r (ix4 b g h q) := by
  pointwise [lowered, onRow, keepDim]
  rw [negInf_eq, max_eq_right bot_le]

theorem shifted_at (s : FVec Ideal S8x4x8x2048x2048 .f32) (b : Fin 8) (g : Fin 4) (h : Fin 8) (q k : Fin 2048) :
    (shifted s (ix5 b g h q k) : EReal) = s (ix5 b g h q k) - Finset.univ.sup fun j : Fin 2048 => (s (ix5 b g h q j) : EReal) := by
  refine (lowered_at s (rowMax s) b g h q k).trans (congrArg (s (ix5 b g h q k) - ·) ((rowMax_at s b g h q).trans ?_))
  rw [negInf_eq]
  rfl

theorem logSoftmax_at (t : FVec Ideal S8x4x8x2048x2048 .f32) (b : Fin 8) (g : Fin 4) (h : Fin 8) (q k : Fin 2048) :
    (logSoftmax t (ix5 b g h q k) : EReal)
      = t (ix5 b g h q k) - Ideal.log (∑ j : Fin 2048, Ideal.exp (t (ix5 b g h q j))) := by
  pointwise [logSoftmax, onRow, keepDim]
  trace_state
  done

theorem output_at (l : FVec Ideal S8x4x8x2048x2048 .f32) (b : Fin 8) (q : Fin 2048) (g : Fin 4) (h : Fin 8) (d : Fin 128) :
    (output l V vs (ix5 b q g h d) : EReal)
      = (∑ k : Fin 2048, (V (ix3 b k ⟨g.val * 128 + d.val, by omega⟩) * Ideal.exp (l (ix5 b g h q k)) : EReal)) * vs (ix1 g) := by
  pointwise [output]
  trace_state
  done

theorem REF_at (b : Fin 8) (q : Fin 2048) (x : Fin 4096) :
    (REF Q K V qs ks vs (ix3 b q x) : EReal)
      = output (logSoftmax (shifted (masked (scores Q K qs ks)))) V vs
          (ix5 b q ⟨x.val / 1024, by omega⟩ ⟨x.val / 128 % 8, by omega⟩ ⟨x.val % 128, by omega⟩) := by
  pointwise [REF]
  trace_state
  done

/-- The result at an element, from the row of masked scores of its query and head. -/
theorem REF_row (b : Fin 8) (q : Fin 2048) (x : Fin 4096) (a : Fin 2048 → EReal)
    (ha : ∀ k, masked (scores Q K qs ks) (ix5 b ⟨x.val / 1024, by omega⟩ ⟨x.val / 128 % 8, by omega⟩ q k) = a k) :
    (REF Q K V qs ks vs (ix3 b q x) : EReal)
      = (∑ k : Fin 2048, Ideal.exp ((a k - Finset.univ.sup a) - Ideal.log (∑ j, Ideal.exp (a j - Finset.univ.sup a)))
          * V (ix3 b k ⟨x.val / 1024 * 128 + x.val % 128, by omega⟩)) * vs (ix1 ⟨x.val / 1024, by omega⟩) := by
  rw [REF_at, output_at]
  refine congrArg (· * _) (Finset.sum_congr rfl fun k _ => ?_)
  rw [mul_comm, logSoftmax_at]
  simp only [shifted_at, ha]

end

end Cert.ReferenceIdeal.Result

end
-- ==== Proof.Final.lean ====
/- The kernel's result array after a run is the reference's result of the same arguments. -/
module

public import proofs.«01_k».proof.Proof.Block
public import proofs.«01_k».proof.Proof.Softmax
public import proofs.«01_k».proof.Proof.Reference
public import proofs.«01_k».proof.Proof.Gen.KernelIdeal.Value

@[expose] public section

set_option maxRecDepth 16384

noncomputable section

namespace Cert.KernelIdeal.Model

open Idealize.ShloMosaic Idealize.ShloMosaic.TcCoe Idealize.SL.Sem
open Idealize.ShloMosaic.Pipeline (Dat)
open Cert.KernelIdeal Cert.KernelIdeal.Gen
open Cert.ReferenceIdeal.Result (REF REF_row masked masked_at scores scores_at factor_at)

/-! ## One output block -/

/-- The masked scores of a query and head, without the factor log₂ e. -/
def plain (E : Env Ideal) (q : Fin 2048) (h : Fin 8) (k : Fin 2048) : EReal :=
  if k.val ≤ q.val ∧ q.val < k.val + 1000 then score E q h k else ⊥

theorem visible_eq (E : Env Ideal) (q : Fin 2048) (h : Fin 8) (k : Fin 2048) :
    visible E q h k = plain E q h k * (((Real.log 2)⁻¹ : ℝ) : EReal) := by
  unfold visible plain
  split
  · rfl
  · exact (EReal.bot_mul_coe_of_pos Softmax.log_two_inv_pos).symm

/-- The attention of a query as the kernel computes it is the softmax-weighted sum, the weights through the logarithm of the softmax. -/
theorem attend_eq (E : Env Ideal) (q : Fin 2048) (h : Fin 8) (d : Fin 128) :
    attend E q h d
      = (∑ k : Fin 2048, Ideal.exp ((plain E q h k - Finset.univ.sup (plain E q h))
            - Ideal.log (∑ j, Ideal.exp (plain E q h j - Finset.univ.sup (plain E q h)))) * E.x5 (ix3 0 k d))
          * E.x2 (ix1 (E.i 1)) :=
  Softmax.row_eq (plain E q h) (visible E q h) (fun k => E.x5 (ix3 0 k d)) (E.x2 (ix1 (E.i 1))) (visible_eq E q h)

/-- Where the blocks of a grid point are the parts of six arrays that its coordinates name, its output block is that part of the
    reference's result. -/
theorem attend_REF (E : Env Ideal) (Q : FVec Ideal S8x2048x4096 .bf16) (K V : FVec Ideal S8x2048x512 .bf16)
    (qs : FVec Ideal S32 .f32) (ks vs : FVec Ideal S4 .f32) (b : Fin 8) (g : Fin 4) (hg : (E.i 1).val = g.val)
    (h0 : ∀ j : Fin 32, E.x0 (ix1 j) = qs (ix1 j)) (h1 : ∀ j : Fin 4, E.x1 (ix1 j) = ks (ix1 j)) (h2 : ∀ j : Fin 4, E.x2 (ix1 j) = vs (ix1 j))
    (h3 : ∀ (q : Fin 2048) (z : Fin 1024), E.x3 (ix3 0 q z) = Q (ix3 b q ⟨g.val * 1024 + z.val, by omega⟩))
    (h4 : ∀ (k : Fin 2048) (x : Fin 128), E.x4 (ix3 0 k x) = K (ix3 b k ⟨g.val * 128 + x.val, by omega⟩))
    (h5 : ∀ (k : Fin 2048) (x : Fin 128), E.x5 (ix3 0 k x) = V (ix3 b k ⟨g.val * 128 + x.val, by omega⟩))
    (q : Fin 2048) (z : Fin 1024) :
    (attend E q ⟨z.val / 128, by omega⟩ ⟨z.val % 128, by omega⟩ : EReal)
      = REF Q K V qs ks vs (ix3 b q ⟨g.val * 1024 + z.val, by omega⟩) := by
  have hi : E.i 1 = g := Fin.ext hg
  have e1 : (⟨(g.val * 1024 + z.val) / 1024, by omega⟩ : Fin 4) = g := Fin.ext (by dsimp only; omega)
  have e2 : (⟨(g.val * 1024 + z.val) / 128 % 8, by omega⟩ : Fin 8) = ⟨z.val / 128, by omega⟩ := Fin.ext (by dsimp only; omega)
  rw [REF_row Q K V qs ks vs b q ⟨g.val * 1024 + z.val, by omega⟩ (plain E q ⟨z.val / 128, by omega⟩) fun k => ?_, attend_eq, hi, h2]
  · refine congrArg₂ (· * ·) (Finset.sum_congr rfl fun k _ => congrArg₂ (· * ·) rfl ?_) (congrArg (fun j => vs (ix1 j)) e1.symm)
    rw [h5]
    exact congrArg (fun j => V (ix3 b k j)) (Fin.ext (by dsimp only; omega))
  · dsimp only
    rw [e1, e2, masked_at]
    unfold plain
    refine if_congr Iff.rfl ?_ rfl
    rw [scores_at, factor_at]
    unfold score qk
    rw [hi, h0, h1]
    refine congrArg₂ (· * ·) (Finset.sum_congr rfl fun x _ => ?_) (congrArg (fun j => (qs (ix1 j) * ks (ix1 g) : EReal) * _) (Fin.ext (by dsimp only; omega)))
    rw [mul_comm, h3, h4]
    exact congrArg (fun j => (Q (ix3 b q j) * K (ix3 b k ⟨g.val * 128 + x.val, by omega⟩) : EReal)) (Fin.ext (by dsimp only; omega))

/-! ## The result array -/

variable (m : (ℓ : Loc nD τ sig) → Buf (Elt Ideal) ℓ)

/-- The block of every window at every grid point. -/
theorem idx : ∀ t : Fin cfg0.N, win0_0.index t = ![0] ∧ win0_1.index t = ![0] ∧ win0_2.index t = ![0]
    ∧ win0_3.index t = ![(grid0.coords t 0).val, 0, (grid0.coords t 1).val]
    ∧ win0_4.index t = ![(grid0.coords t 0).val, 0, (grid0.coords t 1).val]
    ∧ win0_5.index t = ![(grid0.coords t 0).val, 0, (grid0.coords t 1).val]
    ∧ win0_6.index t = ![(grid0.coords t 0).val, 0, (grid0.coords t 1).val] :=
  (by decide +kernel : ∀ t : Fin grid0.N, _)

/-- The reference's result of the kernel's arguments. -/
abbrev result (c : Dev nD) : FVec Ideal S8x2048x4096 .bf16 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem x0_at (c : Dev nD) (t : Fin cfg0.N) (j : Fin 32) :
    (iblk m c 0 t : FVec Ideal S32 .f32) (ix1 j) = (m ((c : Thread nD τ).loc main_arg3) : FVec Ideal S32 .f32) (ix1 j) := by
  blk_ext [iblk, V, idx t]

theorem x1_at (c : Dev nD) (t : Fin cfg0.N) (j : Fin 4) :
    (iblk m c 1 t : FVec Ideal S4 .f32) (ix1 j) = (m ((c : Thread nD τ).loc main_arg4) : FVec Ideal S4 .f32) (ix1 j) := by
  blk_ext [iblk, V, idx t]

theorem x2_at (c : Dev nD) (t : Fin cfg0.N) (j : Fin 4) :
    (iblk m c 2 t : FVec Ideal S4 .f32) (ix1 j) = (m ((c : Thread nD τ).loc main_arg5) : FVec Ideal S4 .f32) (ix1 j) := by
  blk_ext [iblk, V, idx t]

theorem x3_at (c : Dev nD) (t : Fin cfg0.N) (b : Fin 8) (g : Fin 4) (hb : (grid0.coords t 0).val = b.val) (hg : (grid0.coords t 1).val = g.val)
    (q : Fin 2048) (z : Fin 1024) :
    (iblk m c 3 t : FVec Ideal S1x2048x1024 .fp8e4m3) (ix3 0 q z)
      = (m ((c : Thread nD τ).loc main_arg0) : FVec Ideal S8x2048x4096 .fp8e4m3) (ix3 b q ⟨g.val * 1024 + z.val, by omega⟩) := by
  blk_ext [iblk, V, idx t]

theorem x4_at (c : Dev nD) (t : Fin cfg0.N) (b : Fin 8) (g : Fin 4) (hb : (grid0.coords t 0).val = b.val) (hg : (grid0.coords t 1).val = g.val)
    (k : Fin 2048) (x : Fin 128) :
    (iblk m c 4 t : FVec Ideal S1x2048x128 .fp8e4m3) (ix3 0 k x)
      = (m ((c : Thread nD τ).loc main_arg1) : FVec Ideal S8x2048x512 .fp8e4m3) (ix3 b k ⟨g.val * 128 + x.val, by omega⟩) := by
  blk_ext [iblk, V, idx t]

theorem x5_at (c : Dev nD) (t : Fin cfg0.N) (b : Fin 8) (g : Fin 4) (hb : (grid0.coords t 0).val = b.val) (hg : (grid0.coords t 1).val = g.val)
    (k : Fin 2048) (x : Fin 128) :
    (iblk m c 5 t : FVec Ideal S1x2048x128 .fp8e4m3) (ix3 0 k x)
      = (m ((c : Thread nD τ).loc main_arg2) : FVec Ideal S8x2048x512 .fp8e4m3) (ix3 b k ⟨g.val * 128 + x.val, by omega⟩) := by
  blk_ext [iblk, V, idx t]

/-- What a grid point leaves in the output's buffer, at an element. -/
theorem outs_at (c : Dev nD) (t : Fin cfg0.N) (q : Fin 2048) (z : Fin 1024) :
    (outsAt0 m c t (ix3 0 q z) : EReal) = result m c (ix3 (grid0.coords t 0) q ⟨(grid0.coords t 1).val * 1024 + z.val, by have : (grid0.coords t 1).val < 4 := (grid0.coords t 1).isLt; omega⟩) := by
  unfold outsAt0
  rw [out_eq]
  exact attend_REF _ _ _ _ _ _ _ (grid0.coords t 0) (grid0.coords t 1) rfl (x0_at m c t) (x1_at m c t) (x2_at m c t)
    (x3_at m c t _ _ rfl rfl) (x4_at m c t _ _ rfl rfl) (x5_at m c t _ _ rfl rfl) q z

/-- The result array after the run is the reference's result of the arguments. -/
theorem final (c : Dev nD) : (dats m 0 c).arrAt 6 (cfgs 0).N = result m c := by
  refine (dats m 0 c).arrAt_eq_of_covers 6 _ (by decide +kernel) fun t _ y => ?_
  blk_simp
  rw [after0_6]
  have hy : y = (ix3 0 (y 1) (y 2) : S1x2048x1024.Idx) := by blk_ext []
  exact (congrArg (outsAt0 m c t) hy).trans ((outs_at m c t (y 1) (y 2)).trans (congrArg (result m c) (by blk_ext [idx t])))

end Cert.KernelIdeal.Model

end
-- ==== Proof.Region.lean ====
/- The arrays the reference's one region leaves: its arguments, in the wider format. -/
module

public import proofs.«01_k».proof.Proof.Reference

@[expose] public section

set_option maxRecDepth 16384

noncomputable section

namespace Cert.ReferenceIdeal.Result

open Idealize.ShloMosaic Idealize.SL.Sem Idealize.ShloMosaic.TcCoe
open Idealize.ShloMosaic.Pipeline (Dat)
open Cert.ReferenceIdeal Cert.ReferenceIdeal.Gen

variable (m : (ℓ : Loc nD τ sig) → Buf (Elt Ideal) ℓ)

/-- The region's windows are whole arrays. -/
theorem idx : ∀ t : Fin cfg0.N, win0_0.index t = ![0, 0, 0] ∧ win0_1.index t = ![0, 0, 0] ∧ win0_2.index t = ![0, 0, 0] :=
  (by decide +kernel : ∀ t : Fin grid0.N, _)

theorem query_array (c : Dev nD) : (dats m 0 c).arrAt 3 (cfgs 0).N = (m ((c : Thread nD τ).loc main_arg0) : FVec Ideal S8x2048x4096 .fp8e4m3) := by
  refine (dats m 0 c).arrAt_eq_of_after_last 3 t0_0 (by decide +kernel) _ fun j => ?_
  blk_simp
  rw [after0_3]
  frame_out
  blk_point [iblk, V, idx t0_0]

theorem key_array (c : Dev nD) : (dats m 0 c).arrAt 4 (cfgs 0).N = (m ((c : Thread nD τ).loc main_arg1) : FVec Ideal S8x2048x512 .fp8e4m3) := by
  refine (dats m 0 c).arrAt_eq_of_after_last 4 t0_0 (by decide +kernel) _ fun j => ?_
  blk_simp
  rw [after0_4]
  frame_out
  blk_point [iblk, V, idx t0_0]

theorem value_array (c : Dev nD) : (dats m 0 c).arrAt 5 (cfgs 0).N = (m ((c : Thread nD τ).loc main_arg2) : FVec Ideal S8x2048x512 .fp8e4m3) := by
  refine (dats m 0 c).arrAt_eq_of_after_last 5 t0_0 (by decide +kernel) _ fun j => ?_
  blk_simp
  rw [after0_5]
  frame_out
  blk_point [iblk, V, idx t0_0]

/-- The region's windows have different arrays. -/
theorem array_inj : Function.Injective (Pipeline.arrRef (cfgs 0).spec) := by exact (by decide : Function.Injective (Pipeline.arrRef spec0))

theorem REF_congr {Q Q' : FVec Ideal S8x2048x4096 .bf16} {K K' V V' : FVec Ideal S8x2048x512 .bf16} {qs qs' : FVec Ideal S32 .f32}
    {ks ks' vs vs' : FVec Ideal S4 .f32} (h0 : Q = Q') (h1 : K = K') (h2 : V = V') (h3 : qs = qs') (h4 : ks = ks') (h5 : vs = vs') :
    REF Q K V qs ks vs = REF Q' K' V' qs' ks' vs' := by
  subst h0 h1 h2 h3 h4 h5; rfl

/-- The reference's result after a run, of its arguments. -/
theorem result_eq (c : Dev nD) :
    Pipeline.afterTail₀ cfgs (dats m) 0 (V0 m) [hostOps1, hostOps1_1, hostOps1_2, hostOps1_3] c main_v38
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have a0 := (Pipeline.withArrays_arr (cfgs 0).spec array_inj c (V0 m c) (fun w => (dats m 0 c).arrAt w (cfgs 0).N) 3).trans (query_array m c)
  have a1 := (Pipeline.withArrays_arr (cfgs 0).spec array_inj c (V0 m c) (fun w => (dats m 0 c).arrAt w (cfgs 0).N) 4).trans (key_array m c)
  have a2 := (Pipeline.withArrays_arr (cfgs 0).spec array_inj c (V0 m c) (fun w => (dats m 0 c).arrAt w (cfgs 0).N) 5).trans (value_array m c)
  have a3 := Pipeline.withArrays_of_ne (cfgs 0).spec c (V0 m c) (fun w => (dats m 0 c).arrAt w (cfgs 0).N) main_arg3 (by exact (by decide : ∀ w, Pipeline.arrRef spec0 w ≠ main_arg3))
  have a4 := Pipeline.withArrays_of_ne (cfgs 0).spec c (V0 m c) (fun w => (dats m 0 c).arrAt w (cfgs 0).N) main_arg4 (by exact (by decide : ∀ w, Pipeline.arrRef spec0 w ≠ main_arg4))
  have a5 := Pipeline.withArrays_of_ne (cfgs 0).spec c (V0 m c) (fun w => (dats m 0 c).arrAt w (cfgs 0).N) main_arg5 (by exact (by decide : ∀ w, Pipeline.arrRef spec0 w ≠ main_arg5))
  exact (tail_eq _).trans (REF_congr a0 a1 a2 a3 a4 a5)

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Final
public import proofs.«01_k».proof.Proof.Region
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two named constants of the idealized kernel are those of its table. -/
theorem preserves : Cert.preserves_Kernel_KernelIdeal :=
  ⟨IdealRules.named_const.statement Cert.KernelIdeal.κ "log2e" .f32 _ _ rfl, IdealRules.named_const.statement Cert.KernelIdeal.κ "mask" .f32 _ _ rfl⟩

/-- From memories that agree on the arguments, the idealized kernel and the idealized reference end with equal results. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Gen.run_main m' g'
    · rw [Cert.KernelIdeal.Model.final m c]
      obtain ⟨a0, a1, a2, a3, a4, a5⟩ := hagree c
      exact (Cert.ReferenceIdeal.Result.result_eq m' c).trans (Cert.ReferenceIdeal.Result.REF_congr a0 a1 a2 a3 a4 a5)
    · exact (Cert.ReferenceIdeal.Gen.W_main_arg3 m' _ c).trans (hagree c).2.2.2.1
    · exact (Cert.ReferenceIdeal.Gen.W_main_arg4 m' _ c).trans (hagree c).2.2.2.2.1
    · exact (Cert.ReferenceIdeal.Gen.W_main_arg5 m' _ c).trans (hagree c).2.2.2.2.2

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  preserves, algebraic⟩

end Cert.Proof

end
